-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_exist_KernelIdeal [hPre_experts_exist_KernelIdeal : Cert.Pre_experts_exist_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist_ReferenceIdeal [hPre_experts_exist_ReferenceIdeal : Cert.Pre_experts_exist_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_exist_KernelIdeal [hKernelIdeal : Cert.KernelIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_exist_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_exist_ReferenceIdeal [hReferenceIdeal : Cert.ReferenceIdeal.Facts] [hPre_experts_exist_ReferenceIdeal : Cert.Pre_experts_exist_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_exist_KernelIdeal [hKernelIdeal : Cert.KernelIdeal.Facts] [hReferenceIdeal : Cert.ReferenceIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_exist_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_exist_KernelIdeal : Cert.Pre_experts_exist_KernelIdeal.Facts) (hPre_experts_exist_ReferenceIdeal : Cert.Pre_experts_exist_ReferenceIdeal.Facts),
    quiescent_Kernel (hKernel := hKernel)
    ∧ quiescent_KernelIdeal (hKernelIdeal := hKernelIdeal)
    ∧ quiescent_KernelIdeal_pre_experts_exist_KernelIdeal (hKernelIdeal := hKernelIdeal) (hPre_experts_exist_KernelIdeal := hPre_experts_exist_KernelIdeal)
    ∧ quiescent_ReferenceIdeal (hReferenceIdeal := hReferenceIdeal)
    ∧ quiescent_ReferenceIdeal_pre_experts_exist_ReferenceIdeal (hReferenceIdeal := hReferenceIdeal) (hPre_experts_exist_ReferenceIdeal := hPre_experts_exist_ReferenceIdeal)
    ∧ preserves_Kernel_KernelIdeal
    ∧ algebraic_KernelIdeal_ReferenceIdeal_pre_experts_exist_KernelIdeal (hKernelIdeal := hKernelIdeal) (hReferenceIdeal := hReferenceIdeal) (hPre_experts_exist_KernelIdeal := hPre_experts_exist_KernelIdeal)
-- ==== Pre_experts_exist_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x512 .f32) (main_arg1 : FVec F S512x64 .f32) (main_arg2 : IVec S1024x1 32) (main_arg3 : FVec F S4x512x1024 .f32) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Pre_experts_exist_ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x512 .f32) (main_arg1 : FVec F S512x64 .f32) (main_arg2 : IVec S1024x1 32) (main_arg3 : FVec F S64x512x1024 .f32) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  main_v4
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S1024x1024 : Shape := ⟨2, ![1024, 1024]⟩
abbrev S15x64x1024 : Shape := ⟨3, ![15, 64, 1024]⟩
abbrev S15 : Shape := ⟨1, ![15]⟩
abbrev S_ : Shape := ⟨0, ![]⟩
abbrev S1x512x1024 : Shape := ⟨3, ![1, 512, 1024]⟩
abbrev S512x1024 : Shape := ⟨2, ![512, 1024]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S1024x1, .i32⟩
  | .local _ .vmem, ⟨2, _⟩ => ⟨S4x512x1024, .f32⟩
  | .local _ .vmem, ⟨3, _⟩ => ⟨S1024x1024, .f32⟩
  | .local _ .vmem, ⟨4, _⟩ => ⟨S15x64x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_off1 (d0 : Dev nD) (c0_i32_47 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v77 : BitVec 32 := Scalar.subi v2 c0_i32_47
  let c32_i32 : BitVec 32 := 32#32
  let v78 : BitVec 32 := Scalar.addi v77 c32_i32
  let c16_i32_48 : BitVec 32 := 16#32
  let v79 : BitVec 32 := Scalar.remsi v78 c16_i32_48
  let c64_i32 : BitVec 32 := 64#32
  let v80 : BitVec 32 := Scalar.muli v79 c64_i32
  let c0_i32_56 : BitVec 32 := 0#32
  ![v80.toNat, 0]
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_52 : BitVec 32 := 1#32
  let v81 : BitVec 32 := Scalar.muli v4 c1_i32_52
  let v82 : BitVec 32 := Scalar.addi c0_i32_53 v81
  v82.toNat
def k0_off2 (d0 : Dev nD) (c0_i32_72 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v102 : BitVec 32 := Scalar.subi v2 c0_i32_72
  let c1_i32_73 : BitVec 32 := 1#32
  let v103 : BitVec 32 := Scalar.subi v102 c1_i32_73
  let c32_i32_74 : BitVec 32 := 32#32
  let v104 : BitVec 32 := Scalar.addi v103 c32_i32_74
  let c16_i32_75 : BitVec 32 := 16#32
  let v105 : BitVec 32 := Scalar.remsi v104 c16_i32_75
  let c64_i32_76 : BitVec 32 := 64#32
  let v106 : BitVec 32 := Scalar.muli v105 c64_i32_76
  let v107 : Index := Scalar.indexCast v106
  let c0_77 : Index := 0#32
  ![v107.toNat, 0]
def k0_dev3 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_89 : BitVec 32 := 1#32
  let v119 : BitVec 32 := Scalar.muli v4 c1_i32_89
  let v120 : BitVec 32 := Scalar.addi c0_i32_90 v119
  v120.toNat
def k0_dev4 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_126 : BitVec 32 := 1#32
  let v157 : BitVec 32 := Scalar.muli v4 c1_i32_126
  let v158 : BitVec 32 := Scalar.addi c0_i32_127 v157
  v158.toNat
def k0_dev5 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_163 : BitVec 32 := 1#32
  let v195 : BitVec 32 := Scalar.muli v4 c1_i32_163
  let v196 : BitVec 32 := Scalar.addi c0_i32_164 v195
  v196.toNat
def k0_dev6 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_200 : BitVec 32 := 1#32
  let v233 : BitVec 32 := Scalar.muli v4 c1_i32_200
  let v234 : BitVec 32 := Scalar.addi c0_i32_201 v233
  v234.toNat
def k0_dev7 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_235 : BitVec 32 := 1#32
  let v271 : BitVec 32 := Scalar.muli v4 c1_i32_235
  let v272 : BitVec 32 := Scalar.addi c0_i32_236 v271
  v272.toNat
def k0_dev8 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_270 : BitVec 32 := 1#32
  let v309 : BitVec 32 := Scalar.muli v4 c1_i32_270
  let v310 : BitVec 32 := Scalar.addi c0_i32_271 v309
  v310.toNat
def k0_dev9 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_305 : BitVec 32 := 1#32
  let v347 : BitVec 32 := Scalar.muli v4 c1_i32_305
  let v348 : BitVec 32 := Scalar.addi c0_i32_306 v347
  v348.toNat
def k0_dev10 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_340 : BitVec 32 := 1#32
  let v385 : BitVec 32 := Scalar.muli v4 c1_i32_340
  let v386 : BitVec 32 := Scalar.addi c0_i32_341 v385
  v386.toNat
def k0_dev11 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_375 : BitVec 32 := 1#32
  let v423 : BitVec 32 := Scalar.muli v4 c1_i32_375
  let v424 : BitVec 32 := Scalar.addi c0_i32_376 v423
  v424.toNat
def k0_dev12 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_410 : BitVec 32 := 1#32
  let v461 : BitVec 32 := Scalar.muli v4 c1_i32_410
  let v462 : BitVec 32 := Scalar.addi c0_i32_411 v461
  v462.toNat
def k0_dev13 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_445 : BitVec 32 := 1#32
  let v499 : BitVec 32 := Scalar.muli v4 c1_i32_445
  let v500 : BitVec 32 := Scalar.addi c0_i32_446 v499
  v500.toNat
def k0_dev14 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_480 : BitVec 32 := 1#32
  let v537 : BitVec 32 := Scalar.muli v4 c1_i32_480
  let v538 : BitVec 32 := Scalar.addi c0_i32_481 v537
  v538.toNat
def k0_dev15 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_515 : BitVec 32 := 1#32
  let v575 : BitVec 32 := Scalar.muli v4 c1_i32_515
  let v576 : BitVec 32 := Scalar.addi c0_i32_516 v575
  v576.toNat
def k0_dev16 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_550 : BitVec 32 := 1#32
  let v613 : BitVec 32 := Scalar.muli v4 c1_i32_550
  let v614 : BitVec 32 := Scalar.addi c0_i32_551 v613
  v614.toNat
def k0_off3 (d0 : Dev nD) (c0_i32_580 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_579 : BitVec 32 := 1#32
  let v647 : BitVec 32 := Scalar.addi v2 c1_i32_579
  let v648 : BitVec 32 := Scalar.subi v647 c0_i32_580
  let c32_i32_581 : BitVec 32 := 32#32
  let v649 : BitVec 32 := Scalar.addi v648 c32_i32_581
  let c16_i32_582 : BitVec 32 := 16#32
  let v650 : BitVec 32 := Scalar.remsi v649 c16_i32_582
  let c64_i32_583 : BitVec 32 := 64#32
  let v651 : BitVec 32 := Scalar.muli v650 c64_i32_583
  let c0_i32_588 : BitVec 32 := 0#32
  ![v651.toNat, 0]
def k0_dev17 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_586 : BitVec 32 := 1#32
  let v652 : BitVec 32 := Scalar.muli v4 c1_i32_586
  let v653 : BitVec 32 := Scalar.addi c0_i32_587 v652
  v653.toNat
def k0_dev18 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_608 : BitVec 32 := 1#32
  let v675 : BitVec 32 := Scalar.muli v4 c1_i32_608
  let v676 : BitVec 32 := Scalar.addi c0_i32_609 v675
  v676.toNat
def k0_dev19 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_630 : BitVec 32 := 1#32
  let v698 : BitVec 32 := Scalar.muli v4 c1_i32_630
  let v699 : BitVec 32 := Scalar.addi c0_i32_631 v698
  v699.toNat
def k0_dev20 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_652 : BitVec 32 := 1#32
  let v721 : BitVec 32 := Scalar.muli v4 c1_i32_652
  let v722 : BitVec 32 := Scalar.addi c0_i32_653 v721
  v722.toNat
def k0_dev21 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_674 : BitVec 32 := 1#32
  let v744 : BitVec 32 := Scalar.muli v4 c1_i32_674
  let v745 : BitVec 32 := Scalar.addi c0_i32_675 v744
  v745.toNat
def k0_dev22 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_696 : BitVec 32 := 1#32
  let v767 : BitVec 32 := Scalar.muli v4 c1_i32_696
  let v768 : BitVec 32 := Scalar.addi c0_i32_697 v767
  v768.toNat
def k0_dev23 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_718 : BitVec 32 := 1#32
  let v790 : BitVec 32 := Scalar.muli v4 c1_i32_718
  let v791 : BitVec 32 := Scalar.addi c0_i32_719 v790
  v791.toNat
def k0_dev24 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_740 : BitVec 32 := 1#32
  let v813 : BitVec 32 := Scalar.muli v4 c1_i32_740
  let v814 : BitVec 32 := Scalar.addi c0_i32_741 v813
  v814.toNat
def k0_dev25 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_762 : BitVec 32 := 1#32
  let v836 : BitVec 32 := Scalar.muli v4 c1_i32_762
  let v837 : BitVec 32 := Scalar.addi c0_i32_763 v836
  v837.toNat
def k0_dev26 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_784 : BitVec 32 := 1#32
  let v859 : BitVec 32 := Scalar.muli v4 c1_i32_784
  let v860 : BitVec 32 := Scalar.addi c0_i32_785 v859
  v860.toNat
def k0_dev27 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_806 : BitVec 32 := 1#32
  let v882 : BitVec 32 := Scalar.muli v4 c1_i32_806
  let v883 : BitVec 32 := Scalar.addi c0_i32_807 v882
  v883.toNat
def k0_dev28 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_828 : BitVec 32 := 1#32
  let v905 : BitVec 32 := Scalar.muli v4 c1_i32_828
  let v906 : BitVec 32 := Scalar.addi c0_i32_829 v905
  v906.toNat
def k0_dev29 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_850 : BitVec 32 := 1#32
  let v928 : BitVec 32 := Scalar.muli v4 c1_i32_850
  let v929 : BitVec 32 := Scalar.addi c0_i32_851 v928
  v929.toNat
def k0_dev30 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_872 : BitVec 32 := 1#32
  let v951 : BitVec 32 := Scalar.muli v4 c1_i32_872
  let v952 : BitVec 32 := Scalar.addi c0_i32_873 v951
  v952.toNat
def k0_dev31 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_894 : BitVec 32 := 1#32
  let v974 : BitVec 32 := Scalar.muli v4 c1_i32_894
  let v975 : BitVec 32 := Scalar.addi c0_i32_895 v974
  v975.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S1024 : Shape := ⟨1, ![1024]⟩
abbrev S_ : Shape := ⟨0, ![]⟩
abbrev S1024x3 : Shape := ⟨2, ![1024, 3]⟩
abbrev S1024x1x512x1024 : Shape := ⟨4, ![1024, 1, 512, 1024]⟩
abbrev S1024x512x1024 : Shape := ⟨3, ![1024, 512, 1024]⟩
abbrev S1024x1024 : Shape := ⟨2, ![1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x64, .f32⟩
  | .hbm, ⟨2, _⟩ => ⟨S1024x1, .i32⟩
  | .hbm, ⟨3, _⟩ => ⟨S64x512x1024, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1, .i32⟩
  | .hbm, ⟨29, _⟩ => ⟨S1024x1, .i32⟩
  | .hbm, ⟨30, _⟩ => ⟨S1024x1, .i32⟩
  | .hbm, ⟨31, _⟩ => ⟨S1024x3, .i32⟩
  | .hbm, ⟨32, _⟩ => ⟨S1024x1x512x1024, .f32⟩
  | .hbm, ⟨33, _⟩ => ⟨S1024x512x1024, .f32⟩
  | .hbm, ⟨34, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_c_4 : Ref sig .tc := ⟨.hbm, 16, rfl⟩
abbrev main_v7 : Ref sig .tc := ⟨.hbm, 17, rfl⟩
abbrev main_c_5 : Ref sig .tc := ⟨.hbm, 18, rfl⟩
abbrev main_v8 : Ref sig .tc := ⟨.hbm, 19, rfl⟩
abbrev main_c_6 : Ref sig .tc := ⟨.hbm, 20, rfl⟩
abbrev main_c_7 : Ref sig .tc := ⟨.hbm, 21, rfl⟩
abbrev main_v9 : Ref sig .tc := ⟨.hbm, 22, rfl⟩
abbrev main_c_8 : Ref sig .tc := ⟨.hbm, 23, rfl⟩
abbrev main_c_9 : Ref sig .tc := ⟨.hbm, 24, rfl⟩
abbrev main_v10 : Ref sig .tc := ⟨.hbm, 25, rfl⟩
abbrev main_c_10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.KernelIdeal.Steps.lean ====
/-
The kernel's body, written step by step.

One device runs a prologue (the entry handshake and its own experts' contribution to the output), fifteen
reduce-scatter steps and fifteen all-gather steps. The steps of one kind differ in their number alone. Here each kind is
one program with the step's number as a parameter, and `body_eq` says that the printed body is the prologue followed by
the two families.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-! ## The buffers and their parts -/

/-- The staged tokens, expert indices and this device's four expert matrices. -/
abbrev xM : Memref sig .tc .vmem S1024x512 .f32 := Memref.whole cc0_stg0_0
abbrev iM : Memref sig .tc .vmem S1024x1 .i32 := Memref.whole cc0_stg1_0
abbrev wM : Memref sig .tc .vmem S4x512x1024 .f32 := Memref.whole cc0_stg2_0
/-- The staged output, and the fifteen receive slots of the reduce-scatter. -/
abbrev oM : Memref sig .tc .vmem S1024x1024 .f32 := Memref.whole cc0_stg3_0
abbrev bM : Memref sig .tc .vmem S15x64x1024 .f32 := Memref.whole cc0_scratch0

theorem slot_inb (s : Fin 15) : ∀ a, (![s.val, 0, 0] : Fin 3 → ℕ) a + S1x64x1024.size a ≤ S15x64x1024.size a := by
  revert s; decide
theorem sem_inb (s : Fin 15) : ∀ a, (![s.val] : Fin 1 → ℕ) a + S1.size a ≤ S15.size a := by
  revert s; decide

/-- Sixty-four rows of the output at an offset. -/
abbrev rowsR (off : Fin 2 → ℕ) (h : ∀ a, off a + S64x1024.size a ≤ S1024x1024.size a) : Rect S1024x1024 :=
  Rect.unit (s := S1024x1024) off S64x1024.size h
abbrev rowsM (off : Fin 2 → ℕ) (h : ∀ a, off a + S64x1024.size a ≤ S1024x1024.size a) : Memref sig .tc .vmem S64x1024 .f32 :=
  oM.slice (rowsR off h) (fun _ => rfl)
/-- Receive slot `s`, as the kernel loads it and as its copies name it. -/
abbrev slotR (s : Fin 15) : Rect S15x64x1024 := Rect.unit (s := S15x64x1024) ![s.val, 0, 0] S1x64x1024.size (slot_inb s)
abbrev slot1M (s : Fin 15) : Memref sig .tc .vmem S1x64x1024 .f32 := bM.slice (slotR s) (fun _ => rfl)
abbrev slotM (s : Fin 15) : Memref sig .tc .vmem S64x1024 .f32 := (slot1M s).squeeze S64x1024 squeezes_S1x64x1024_S64x1024
/-- Semaphore `s` of an array of fifteen. -/
abbrev semAt (a : DmaSems sig S15) (s : Fin 15) : DmaSem sig :=
  ((a.slice (Rect.unit (s := S15) ![s.val] S1.size (sem_inb s))).squeeze S_ squeezes_S1_S_).sem

/-- The four semaphores of step `s`: reduce-scatter send and receive, all-gather send and receive. -/
abbrev rsSend (s : Fin 15) : DmaSem sig := semAt cc0_scratch1 s
abbrev rsRecv (s : Fin 15) : DmaSem sig := semAt cc0_scratch2 s
abbrev agSend (s : Fin 15) : DmaSem sig := semAt cc0_scratch3 s
abbrev agRecv (s : Fin 15) : DmaSem sig := semAt cc0_scratch4 s

/-- The runtime's barrier semaphore of collective id 0. -/
abbrev barS : Sem sig := (SemArray.scalar (sig.barrier 0 rfl) : Sems sig S_).sem

/-- The device to the right, as the program computes it. -/
abbrev rightDev (c : Dev nD) : Dev nD := ⟨k0_dev2 c, k0_dev2_lt c⟩

/-! ## The steps -/

abbrev Body (F : FTy → Type) : Type 1 := Prog (TpuEff nD τ sig (Elt F) Λ₀ .tc) PUnit

/-- The rows that step `s` of the reduce-scatter sends, those it accumulates into, and those that step `s` of the
    all-gather sends. -/
abbrev off1 (c : Dev nD) (s : Fin 15) : Fin 2 → ℕ := k0_off1 c (BitVec.ofNat 32 s.val)
abbrev off2 (c : Dev nD) (s : Fin 15) : Fin 2 → ℕ := k0_off2 c (BitVec.ofNat 32 s.val)
abbrev off3 (c : Dev nD) (s : Fin 15) : Fin 2 → ℕ := k0_off3 c (BitVec.ofNat 32 s.val)

/-- A received slot added to the rows it belongs to. -/
def addSlot (v : Vec F S64x1024 .f32) (w : Vec F S1x64x1024 .f32) : FVec F S64x1024 .f32 := k0_pay5 v w

/-- A step of the reduce-scatter with neighbour `d`: send the rows at `o1` into the neighbour's slot `s`, wait until they
    are out and until the left neighbour's have come in, add what came in to the rows at `o2`. -/
def rsStepOn (d : Dev nD) {o1 o2 : Fin 2 → ℕ} (h1 : ∀ a, o1 a + S64x1024.size a ≤ S1024x1024.size a)
    (h2 : ∀ a, o2 a + S64x1024.size a ≤ S1024x1024.size a) (s : Fin 15) (k : Body F) : Body F :=
  .op (.enqueueDma (rowsM o1 h1) (.remote (Dev.tc d) (slotM s) (.dma (rsSend s))) (.dma (rsRecv s))
    (View.wordExact_bits rfl) ((View.wordExact_bits rfl).reshape _ _) ⟨⟨rfl, Or.inl rfl⟩, trivial⟩) fun _ =>
  .op (.waitDma2 (rsSend s) (slotM s) (rowsM o1 h1) ((View.wordExact_bits rfl).reshape _ _) (View.wordExact_bits rfl)) fun _ =>
  .op (.waitDma2 (rsRecv s) (rowsM o1 h1) (slotM s) (View.wordExact_bits rfl) ((View.wordExact_bits rfl).reshape _ _)) fun _ =>
  .op (.load oM (rowsR o2 h2).toLoadRect (View.loadsAt_vmem h_S64x1024)) fun v =>
  .op (.load bM (slotR s).toLoadRect (View.loadsAt_vmem h_S1x64x1024)) fun w =>
  .op (.load oM (rowsR o2 h2).toLoadRect (View.loadsAt_vmem h_S64x1024)) fun _ =>
  .op (.store oM (rowsR o2 h2) (addSlot v w) Finset.univ (View.stores_vmem_bits_univ h_S64x1024 rfl) (.inl rfl)) fun _ => k

/-- Step `s` of the reduce-scatter on device `c`. -/
def rsStep (c : Dev nD) (s : Fin 15) (k : Body F) : Body F :=
  rsStepOn (rightDev c) (o1 := off1 c s) (o2 := off2 c s) (k0_off1_inb c s) (k0_off2_inb c s) s k

/-- A step of the all-gather with neighbour `d`: send the rows at `o` into the same rows of the neighbour's output, wait
    until they are out and until the left neighbour's have come in. -/
def agStepOn (d : Dev nD) {o : Fin 2 → ℕ} (h : ∀ a, o a + S64x1024.size a ≤ S1024x1024.size a) (s : Fin 15) (k : Body F) : Body F :=
  .op (.enqueueDma (rowsM o h) (.remote (Dev.tc d) (rowsM o h) (.dma (agSend s)))
    (.dma (agRecv s)) (View.wordExact_bits rfl) (View.wordExact_bits rfl) ⟨⟨rfl, Or.inl rfl⟩, trivial⟩) fun _ =>
  .op (.waitDma2 (agSend s) (rowsM o h) (rowsM o h) (View.wordExact_bits rfl) (View.wordExact_bits rfl)) fun _ =>
  .op (.waitDma2 (agRecv s) (rowsM o h) (rowsM o h) (View.wordExact_bits rfl) (View.wordExact_bits rfl)) fun _ => k

/-- Step `s` of the all-gather on device `c`. -/
def agStep (c : Dev nD) (s : Fin 15) (k : Body F) : Body F :=
  agStepOn (rightDev c) (o := off3 c s) (k0_off3_inb c s) s k

set_option backward.proofsInPublic true in
/-- The last `n` steps of fifteen, in order, then `k`. -/
def lastSteps (step : Fin 15 → Body F → Body F) (k : Body F) : ℕ → Body F
  | 0 => k
  | n + 1 => step ⟨14 - n, Nat.lt_succ_of_le (Nat.sub_le 14 n)⟩ (lastSteps step k n)

abbrev wR (e : Fin 4) : Fin 3 → ℕ := ![e.val, 0, 0]

theorem w_inb (e : Fin 4) : ∀ a, (wR e) a + S1x512x1024.size a ≤ S4x512x1024.size a := by revert e; decide

/-- What a device contributes: the sum over its four experts of the tokens routed there times the expert's matrix. -/
def contrib (c : Dev nD) (x : Vec F S1024x512 .f32) (ix : Vec F S1024x1 .i32) (w : Fin 4 → Vec F S1x512x1024 .f32) : FVec F S1024x1024 .f32 :=
  let v2 : BitVec 32 := Scalar.remsi (Scalar.divsi (Dev.word c) 1#32) 16#32
  k0_pay4 (k0_pay2 v2 (k0_pay1 c ix x (w 0)) (Scalar.addi (Scalar.muli v2 4#32) 1#32) ix x (w 1) ix x (w 2)) (k0_pay3 v2 ix) x (w 3)

abbrev ldI (k : Vec F S1024x1 .i32 → Body F) : Body F :=
  .op (.load iM (Rect.unit (s := S1024x1) ![0, 0] S1024x1.size inb_S1024x1_S1024x1_0_0).toLoadRect (View.loadsAt_vmem h_S1024x1)) k
abbrev ldX (k : Vec F S1024x512 .f32 → Body F) : Body F :=
  .op (.load xM (Rect.unit (s := S1024x512) ![0, 0] S1024x512.size inb_S1024x512_S1024x512_0_0).toLoadRect (View.loadsAt_vmem h_S1024x512)) k
abbrev ldW (e : Fin 4) (k : Vec F S1x512x1024 .f32 → Body F) : Body F :=
  .op (.load wM (Rect.unit (s := S4x512x1024) (wR e) S1x512x1024.size (w_inb e)).toLoadRect (View.loadsAt_vmem h_S1x512x1024)) k

/-- The prologue: signal the left neighbour, wait for the right one, compute the contribution and store it. -/
def prologue (c : Dev nD) (k : Body F) : Body F :=
  .op (.semSignal (Dev.tc (⟨k0_dev1 c, k0_dev1_lt c⟩ : Dev nD)) barS (1#32).toNat) fun _ =>
  .op (.semWait barS (1#32).toNat) fun _ =>
  ldI fun i0 => ldX fun x0 => ldW 0 fun w0 => ldI fun i1 => ldX fun x1 => ldW 1 fun w1 =>
  ldI fun i2 => ldX fun x2 => ldW 2 fun w2 => ldI fun i3 => ldX fun x3 => ldW 3 fun w3 =>
  .op (.load oM (Rect.unit (s := S1024x1024) ![0, 0] S1024x1024.size inb_S1024x1024_S1024x1024_0_0).toLoadRect (View.loadsAt_vmem h_S1024x1024)) fun _ =>
  .op (.store oM (Rect.unit (s := S1024x1024) ![0, 0] S1024x1024.size inb_S1024x1024_S1024x1024_0_0)
    (let v2 : BitVec 32 := Scalar.remsi (Scalar.divsi (Dev.word c) 1#32) 16#32
     k0_pay4 (k0_pay2 v2 (k0_pay1 c i0 x0 w0) (Scalar.addi (Scalar.muli v2 4#32) 1#32) i1 x1 w1 i2 x2 w2) (k0_pay3 v2 i3) x3 w3)
    Finset.univ (View.stores_vmem_bits_univ h_S1024x1024 rfl) (.inl rfl)) fun _ => k

/-- The whole body on device `c`. -/
def bodyOf (c : Dev nD) : Body F :=
  prologue c (lastSteps (rsStep c) (lastSteps (agStep c) (.ret ⟨⟩) 15) 15)

set_option maxRecDepth 65536 in
set_option maxHeartbeats 4000000 in
/-- The printed body is the prologue, fifteen reduce-scatter steps and fifteen all-gather steps. -/
theorem body_eq :
    cc0_body (F := F) xM (Memref.isWhole_whole _) iM (Memref.isWhole_whole _) wM (Memref.isWhole_whole _) oM (Memref.isWhole_whole _) bM (Memref.isWhole_whole _)
        cc0_scratch1 cc0_scratch2 cc0_scratch3 cc0_scratch4
      = .op .deviceId fun c => bodyOf c := by
  rfl

end Cert.KernelIdealProof

end
-- ==== Proof.KernelIdeal.Parts.lean ====
/-
The parts of the buffers: the output as sixteen chunks of sixty-four rows, the scratch buffer as fifteen slots.

A part is owned at its contents (`owns`), so the rules here say what a load, a store and a copy do to a part's contents,
and that a buffer is the separating conjunction of its parts. The arithmetic of the ring is here too: which chunk a device
sends at each step, and who sends it next.
-/
module

public import proofs.«01_k».proof.Proof.KernelIdeal.Steps
public import Idealize.ShloMosaic.Lib.MemrefSat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring -/

set_option backward.proofsInPublic true in
/-- The device to the right, and the one to the left. -/
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩
set_option backward.proofsInPublic true in
/-- The chunk that device `c` sends at step `t` of the reduce-scatter. -/
def ch (c : Dev nD) (t : ℕ) : Fin 16 := ⟨(c.val + 32 - t) % 16, Nat.mod_lt _ (by decide)⟩
set_option backward.proofsInPublic true in
/-- The device that sends chunk `j` at step `t` of the reduce-scatter. -/
def sh (j : Fin 16) (t : ℕ) : Dev nD := ⟨(j.val + t) % 16, Nat.mod_lt _ (by decide)⟩

theorem prv_nxt (c : Dev nD) : prv (nxt c) = c := by revert c; decide
theorem nxt_prv (c : Dev nD) : nxt (prv c) = c := by revert c; decide
theorem nxt_inj : Function.Injective nxt := fun a b h => by rw [← prv_nxt a, h, prv_nxt]

def ring : Dev nD ≃ Dev nD := ⟨nxt, prv, prv_nxt, nxt_prv⟩

theorem val_lt (c : Dev nD) : c.val < 16 := c.isLt

theorem sh_ch (c : Dev nD) (t : ℕ) (ht : t ≤ 16) : sh (ch c t) t = c := by
  have := val_lt c; refine Fin.ext ?_; simp only [sh, ch]; omega
theorem ch_nxt (c : Dev nD) (t : ℕ) : ch (nxt c) (t + 1) = ch c t ∨ 32 < t + 1 := by
  have := val_lt c
  by_cases h : 32 < t + 1
  · exact .inr h
  · refine .inl (Fin.ext ?_); simp only [nxt, ch]; omega
theorem ch_nxt_succ (c : Dev nD) (t : ℕ) (ht : t ≤ 31) : ch (nxt c) (t + 1) = ch c t :=
  (ch_nxt c t).resolve_right (by omega)
theorem ch_prv (c : Dev nD) (t : ℕ) (ht : t ≤ 31) : ch (prv c) t = ch c (t + 1) := by
  have h := ch_nxt_succ (prv c) t ht; rw [nxt_prv] at h; exact h.symm
theorem ch_last (c : Dev nD) : ch c 15 = ch (nxt c) 0 := by
  have := val_lt c; refine Fin.ext ?_; simp only [nxt, ch]; omega
theorem ch_inj (c : Dev nD) {s t : ℕ} (hs : s < 16) (ht : t < 16) (h : ch c s = ch c t) : s = t := by
  have := val_lt c; have h' := congrArg Fin.val h; simp only [ch] at h'; omega

/-- Step by step the chunks of one device run through all sixteen. -/
theorem ch_bij (c : Dev nD) : Function.Bijective fun t : Fin 16 => ch c t.val :=
  (Fintype.bijective_iff_injective_and_card _).mpr ⟨fun s t h => Fin.ext (ch_inj c s.isLt t.isLt h), rfl⟩

def chEquiv (c : Dev nD) : Fin 16 ≃ Fin 16 := Equiv.ofBijective _ (ch_bij c)

/-! ## Chunks and slots -/

/-- Where chunk `j` begins. -/
abbrev cOff (j : Fin 16) : Fin 2 → ℕ := ![64 * j.val, 0]

theorem cOff_inb (j : Fin 16) : ∀ a, cOff j a + S64x1024.size a ≤ S1024x1024.size a := by revert j; decide

abbrev chunkR (j : Fin 16) : Rect S1024x1024 := rowsR (cOff j) (cOff_inb j)
abbrev chunkM (j : Fin 16) : Memref sig .tc .vmem S64x1024 .f32 := rowsM (cOff j) (cOff_inb j)

theorem dev1_eq (c : Dev nD) : (⟨k0_dev1 c, k0_dev1_lt c⟩ : Dev nD) = prv c := Fin.ext (k0_dev1_eq c)
theorem dev2_eq (c : Dev nD) : rightDev c = nxt c := Fin.ext (k0_dev2_eq c)
theorem off1_eq (c : Dev nD) (s : Fin 15) : off1 c s = cOff (ch c s.val) := k0_off1_eq c s
theorem off2_eq (c : Dev nD) (s : Fin 15) : off2 c s = cOff (ch c (s.val + 1)) := by
  refine (k0_off2_eq c s).trans ?_
  have e : c.val + 31 - s.val = c.val + 32 - (s.val + 1) := by have := s.isLt; omega
  rw [e]; rfl
theorem off3_eq (c : Dev nD) (s : Fin 15) : off3 c s = cOff (ch (nxt c) s.val) := by
  refine (k0_off3_eq c s).trans ?_
  have e : (c.val + 33 - s.val) % 16 = ((c.val + 1) % 16 + 32 - s.val) % 16 := by have := val_lt c; have := s.isLt; omega
  rw [e]; rfl

/-- A reduce-scatter step names chunks by their place in the ring. -/
theorem rsStep_eq (c : Dev nD) (s : Fin 15) (k : Body F) :
    rsStep c s k = rsStepOn (nxt c) (cOff_inb (ch c s.val)) (cOff_inb (ch c (s.val + 1))) s k := by
  have key : ∀ (d d' : Dev nD) (o1 o2 p1 p2 : Fin 2 → ℕ) (h1 h2 h1' h2'), d = d' → o1 = p1 → o2 = p2 →
      rsStepOn (F := F) d (o1 := o1) (o2 := o2) h1 h2 s k = rsStepOn d' (o1 := p1) (o2 := p2) h1' h2' s k := by
    rintro d d' o1 o2 p1 p2 h1 h2 h1' h2' rfl rfl rfl; rfl
  exact key _ _ _ _ _ _ _ _ _ _ (dev2_eq c) (off1_eq c s) (off2_eq c s)

/-- So does an all-gather step. -/
theorem agStep_eq (c : Dev nD) (s : Fin 15) (k : Body F) :
    agStep c s k = agStepOn (nxt c) (cOff_inb (ch (nxt c) s.val)) s k := by
  have key : ∀ (d d' : Dev nD) (o p : Fin 2 → ℕ) (h h'), d = d' → o = p →
      agStepOn (F := F) d (o := o) h s k = agStepOn d' (o := p) h' s k := by
    rintro d d' o p h h' rfl rfl; rfl
  exact key _ _ _ _ _ _ (dev2_eq c) (off3_eq c s)

theorem chunk_disj (j j' : Fin 16) (h : j ≠ j') : Disjoint (chunkR j).set (chunkR j').set := by
  refine Rect.unit_disjoint (0 : Fin 2) ?_
  have : j.val ≠ j'.val := fun e => h (Fin.ext e)
  show 64 * j.val + 64 ≤ 64 * j'.val ∨ 64 * j'.val + 64 ≤ 64 * j.val
  omega

theorem chunk_cov : (Finset.univ : Finset (Fin 16)).biUnion (fun j => (chunkR j).set) = Finset.univ := by
  refine Finset.eq_univ_iff_forall.mpr fun i => Finset.mem_biUnion.mpr ?_
  have h0 : (i 0).val < 1024 := (i 0).isLt
  have h1 : (i 1).val < 1024 := (i 1).isLt
  refine ⟨⟨(i 0).val / 64, by omega⟩, Finset.mem_univ _, Rect.mem_set_unit.mpr fun a => ?_⟩
  match a with
  | ⟨0, _⟩ =>
    show 64 * ((i 0).val / 64) ≤ (i 0).val ∧ (i 0).val < 64 * ((i 0).val / 64) + 64
    omega
  | ⟨1, _⟩ => exact ⟨Nat.zero_le _, by show (i 1).val < 0 + 1024; omega⟩

theorem slot_disj (s s' : Fin 15) (h : s ≠ s') : Disjoint (slotR s).set (slotR s').set := by
  refine Rect.unit_disjoint (0 : Fin 3) ?_
  have : s.val ≠ s'.val := fun e => h (Fin.ext e)
  show s.val + 1 ≤ s'.val ∨ s'.val + 1 ≤ s.val
  omega

theorem slot_cov : (Finset.univ : Finset (Fin 15)).biUnion (fun s => (slotR s).set) = Finset.univ := by
  refine Finset.eq_univ_iff_forall.mpr fun i => Finset.mem_biUnion.mpr ?_
  have h0 : (i 0).val < 15 := (i 0).isLt
  have h1 : (i 1).val < 64 := (i 1).isLt
  have h2 : (i 2).val < 1024 := (i 2).isLt
  refine ⟨⟨(i 0).val, h0⟩, Finset.mem_univ _, Rect.mem_set_unit.mpr fun a => ?_⟩
  match a with
  | ⟨0, _⟩ => show (i 0).val ≤ (i 0).val ∧ (i 0).val < (i 0).val + 1; omega
  | ⟨1, _⟩ => exact ⟨Nat.zero_le _, by show (i 1).val < 0 + 64; omega⟩
  | ⟨2, _⟩ => exact ⟨Nat.zero_le _, by show (i 2).val < 0 + 1024; omega⟩

/-! ## Contents of parts -/

abbrev Rows (F : FTy → Type) : Type := S64x1024.Idx → Elt F .f32
abbrev Full (F : FTy → Type) : Type := S1024x1024.Idx → Elt F .f32

/-- Chunk `j` of the contents of an output buffer. -/
def chunkOf (f : Full F) (j : Fin 16) : Rows F := fun i => f ((chunkR j).emb i)

/-- The sum that a reduce-scatter step stores: its own rows and the received ones. -/
def addC (v : Rows F) (w : Rows F) : Rows F := addf (shapeCast S64x1024 (v : Vec F S64x1024 .f32) shapeCasts_S64x1024_S64x1024) (w : Vec F S64x1024 .f32)

/-- Owned at some contents. -/
def someO (d : Dev nD) (j : Fin 16) : sProp 𝕄 := iprop(∃ v : Rows F, owns (d : Thread nD τ) (chunkM j) fullShare v)
def someB (d : Dev nD) (s : Fin 15) : sProp 𝕄 := iprop(∃ v : Rows F, owns (d : Thread nD τ) (slotM s) fullShare v)
/-- Chunk `j` of device `d`'s output, and slot `s` of its scratch, owned at contents `v`. -/
def ownO (d : Dev nD) (j : Fin 16) (v : Rows F) : sProp 𝕄 := owns (d : Thread nD τ) (chunkM j) fullShare v
def ownB (d : Dev nD) (s : Fin 15) (v : Rows F) : sProp 𝕄 := owns (d : Thread nD τ) (slotM s) fullShare v

omit [FloatOps F] in
instance someO_storable (d : Dev nD) (j : Fin 16) : BI.Storable (upEmb : UEmb _ 𝕄) (someO (F := F) d j) := by unfold someO; infer_instance
omit [FloatOps F] in
instance someB_storable (d : Dev nD) (s : Fin 15) : BI.Storable (upEmb : UEmb _ 𝕄) (someB (F := F) d s) := by unfold someB; infer_instance
omit [FloatOps F] in
instance ownO_storable (d : Dev nD) (j : Fin 16) (v : Rows F) : BI.Storable (upEmb : UEmb _ 𝕄) (ownO d j v) := by unfold ownO; infer_instance
omit [FloatOps F] in
instance ownB_storable (d : Dev nD) (s : Fin 15) (v : Rows F) : BI.Storable (upEmb : UEmb _ 𝕄) (ownB d s v) := by unfold ownB; infer_instance

omit [FloatOps F] in
theorem ownO_some (d : Dev nD) (j : Fin 16) (v : Rows F) : (ownO d j v : sProp 𝕄) ⊢ someO d j := by
  unfold ownO someO; iintro H; iexists v; iexact H
omit [FloatOps F] in
theorem ownB_some (d : Dev nD) (s : Fin 15) (v : Rows F) : (ownB d s v : sProp 𝕄) ⊢ someB d s := by
  unfold ownB someB; iintro H; iexists v; iexact H
omit [FloatOps F] in
theorem someO_elim (d : Dev nD) (j : Fin 16) : (someO d j : sProp 𝕄) ⊢ iprop(∃ v : Rows F, ownO d j v) := .rfl
omit [FloatOps F] in
theorem someB_elim (d : Dev nD) (s : Fin 15) : (someB d s : sProp 𝕄) ⊢ iprop(∃ v : Rows F, ownB d s v) := .rfl

/-! ## A buffer is its parts -/

omit [FloatOps F] in
/-- The output buffer at `f` is its sixteen chunks. -/
theorem out_chunks (d : Dev nD) (f : Full F) :
    (owns (d : Thread nD τ) oM fullShare f : sProp 𝕄) ⊢ bigSep Finset.univ fun j => ownO d j (chunkOf f j) := by
  unfold ownO chunkOf
  exact owns_rects (Val := Elt F) (d : Thread nD τ) oM fullShare chunkR (fun _ _ => rfl) chunk_disj chunk_cov f

theorem chunks_out (d : Dev nD) (f : Full F) :
    (bigSep Finset.univ fun j => ownO d j (chunkOf f j) : sProp 𝕄) ⊢ owns (d : Thread nD τ) oM fullShare f := by
  unfold ownO chunkOf
  exact owns_of_rects (Val := Elt F) (d : Thread nD τ) oM fullShare chunkR (fun _ _ => rfl) chunk_disj chunk_cov f

omit [FloatOps F] in
/-- A slot as its copies name it is the slot as the kernel loads it: the same elements, the same contents up to the unit axis. -/
theorem slotM_set (s : Fin 15) : (slotM s).view.set = (slot1M s).view.set := View.set_reshape _ _

omit [FloatOps F] in
theorem slot1_some (d : Dev nD) (s : Fin 15) :
    (ownsSat (d : Thread nD τ) (slot1M s) fullShare (fun _ => True) : sProp 𝕄) ⊢ someB (F := F) d s := by
  unfold ownsSat someB
  iintro ⟨%f, -, H⟩
  iexists ((slotM s).view.read (Elt F) f)
  iapply (owns_intro (d : Thread nD τ) (slotM s) fullShare f)
  rw [slotM_set]
  iexact H
omit [FloatOps F] in
theorem some_slot1 (d : Dev nD) (s : Fin 15) :
    (someB (F := F) d s : sProp 𝕄) ⊢ ownsSat (d : Thread nD τ) (slot1M s) fullShare (fun _ => True) := by
  unfold ownsSat someB owns
  iintro ⟨%v, %f, -, H⟩
  iexists f
  isplitr; · ipureintro; trivial
  rw [← slotM_set]
  iexact H

omit [FloatOps F] in
/-- The scratch buffer at some contents is its fifteen slots. -/
theorem scratch_slots (d : Dev nD) :
    (ownsSat (Val := Elt F) (d : Thread nD τ) bM fullShare (fun _ => True) : sProp 𝕄) ⊢ bigSep Finset.univ fun s => someB (F := F) d s :=
  ((ownsSat_mono (d : Thread nD τ) bM fullShare (fun _ _ _ => trivial)).trans
    (ownsSat_rects (Val := Elt F) (d : Thread nD τ) bM fullShare slotR (fun _ _ => rfl) slot_disj slot_cov (fun _ _ => True))).trans
    (bigSep_mono fun s _ => slot1_some d s)

theorem slots_scratch (d : Dev nD) :
    (bigSep Finset.univ fun s => someB (F := F) d s : sProp 𝕄) ⊢ ownsSat (Val := Elt F) (d : Thread nD τ) bM fullShare (fun _ => True) :=
  (bigSep_mono fun s _ => some_slot1 d s).trans
    ((ownsSat_of_rects (Val := Elt F) (d : Thread nD τ) bM fullShare slotR (fun _ _ => rfl) slot_disj slot_cov (fun _ _ => True)).trans
      (ownsSat_mono (d : Thread nD τ) bM fullShare (fun _ _ => trivial)))

/-! ## Loads and stores of parts -/

/-- A load of a chunk reads what the chunk holds. -/
theorem wp_load_chunk (c : Dev nD) (j : Fin 16) (v : Rows F) {hl : oM.view.LoadsAt (chunkR j).toLoadRect} {α : Type}
    {k : (S64x1024.Idx → Elt F .f32) → Prog (TpuEff nD τ sig (Elt F) Λ₀ .tc) α} {Q : α → sProp 𝕄} :
    (ownO c j v : sProp 𝕄)
      ⊢ iprop((ownO c j v -∗ wp frame (wpE (defs₀ (F := F)) 𝒱₀ (c : Thread nD τ) none) Set.univ (k v) Q)
        -∗ wp frame (wpE (defs₀ (F := F)) 𝒱₀ (c : Thread nD τ) none) Set.univ (.op (.load oM (chunkR j).toLoadRect hl) k) Q) := by
  unfold ownO owns
  iintro ⟨%f, %hf, H⟩ Hk
  iapply (wp_load_rect 𝒱₀ (c : Thread nD τ) none Set.univ (m := oM) (r := chunkR j) (S := (chunkM j).view.set) (Finset.Subset.refl _)) $$ H
  iintro H
  rw [show (oM.access (chunkR j)).read (Elt F) f = v from hf]
  iapply Hk
  iexists f
  isplitr; · ipureintro; exact hf
  iexact H

/-- A load of a slot reads what the slot holds, with a unit axis in front. -/
theorem wp_load_slot (c : Dev nD) (s : Fin 15) (w : Rows F) {hl : bM.view.LoadsAt (slotR s).toLoadRect} {α : Type}
    {k : (S1x64x1024.Idx → Elt F .f32) → Prog (TpuEff nD τ sig (Elt F) Λ₀ .tc) α} {Q : α → sProp 𝕄} :
    (ownB c s w : sProp 𝕄)
      ⊢ iprop((∀ w', ⌜∀ v : Rows F, addSlot v w' = addC v w⌝ -∗ ownB c s w -∗ wp frame (wpE (defs₀ (F := F)) 𝒱₀ (c : Thread nD τ) none) Set.univ (k w') Q)
        -∗ wp frame (wpE (defs₀ (F := F)) 𝒱₀ (c : Thread nD τ) none) Set.univ (.op (.load bM (slotR s).toLoadRect hl) k) Q) := by
  unfold ownB owns
  iintro ⟨%f, %hf, H⟩ Hk
  iapply (wp_load_rect 𝒱₀ (c : Thread nD τ) none Set.univ (m := bM) (r := slotR s) (S := (slotM s).view.set)
    (by rw [slotM_set])) $$ H
  iintro H
  iapply Hk $$ %((bM.access (slotR s)).read (Elt F) f) []
  · ipureintro; intro v; rw [← hf]; rfl
  iexists f
  isplitr; · ipureintro; exact hf
  iexact H

/-- A store of a chunk leaves what was stored. -/
theorem wp_store_chunk (c : Dev nD) (j : Fin 16) (v w : Rows F) {hx : (oM.access (chunkR j)).Stores Finset.univ}
    {hm : (Finset.univ : Finset (chunkR j).shape.Idx) = Finset.univ ∨ ∀ a, (chunkR j).stride a = 1} {α : Type}
    {k : PUnit → Prog (TpuEff nD τ sig (Elt F) Λ₀ .tc) α} {Q : α → sProp 𝕄} :
    (ownO c j v : sProp 𝕄)
      ⊢ iprop((ownO c j w -∗ wp frame (wpE (defs₀ (F := F)) 𝒱₀ (c : Thread nD τ) none) Set.univ (k ⟨⟩) Q)
        -∗ wp frame (wpE (defs₀ (F := F)) 𝒱₀ (c : Thread nD τ) none) Set.univ (.op (.store oM (chunkR j) w Finset.univ hx hm) k) Q) := by
  unfold ownO owns
  iintro ⟨%f, %hf, H⟩ Hk
  iapply (wp_store 𝒱₀ (c : Thread nD τ) none Set.univ (m := oM) (r := chunkR j) (Mk := Finset.univ) (S := (chunkM j).view.set)
    (Finset.Subset.refl _)) $$ H
  iintro H
  iapply Hk
  iexists _
  isplitr
  swap
  · iexact H
  ipureintro
  exact View.read_write_univ (v := (chunkM j).view) f w

end Cert.KernelIdealProof

end
-- ==== Proof.KernelIdeal.Protocol.lean ====
/-
The protocol between the devices, as a schedule of rounds.

Each device `c` has sixty-one semaphores: the barrier, and for each step `s` of each of the two phases one that its own copy
credits when the source is free (send) and one that the left neighbour's copy credits when it has landed (receive). All are
used in one round with one payer.

* barrier of `c`: one unit, from `nxt c`; it hands over the fifteen slots of `nxt c`'s scratch.
* reduce-scatter send `s` of `c`: credited by `c`'s own copy; hands over nothing (the source travels with the landing).
* reduce-scatter receive `s` of `c`: credited by `prv c`'s copy; hands over slot `s` of `c` holding `prv c`'s partial sum,
  and for the chunk in question the outputs' rows on all devices that already sent it: they will be written by the all-gather.
* all-gather send `s` of `c`: credited by `c`'s own copy; the source rows come back.
* all-gather receive `s` of `c`: credited by `prv c`'s copy; hands over the finished chunk in `c`'s output, and that
  chunk's rows on the devices still to be written.

Every wait stands below all that the waiter still owes: the levels rise from the barrier through the steps in order.
-/
module

public import proofs.«01_k».proof.Proof.KernelIdeal.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The semaphores of one device: the barrier, or step `s` of family `q` (0, 1: reduce-scatter send, receive; 2, 3: all-gather). -/
abbrev Key : Type := Option (Fin 4 × Fin 15)

abbrev semOf : Fin 4 → Fin 15 → DmaSem sig
  | 0, s => rsSend s
  | 1, s => rsRecv s
  | 2, s => agSend s
  | 3, s => agRecv s

/-- The scoped semaphores among them, and all of them. -/
abbrev osem (k : Fin 4 × Fin 15) : SemLoc sig := .dma (semOf k.1 k.2)
abbrev csem : Key → SemLoc sig
  | none => .reg barS
  | some k => osem k

theorem osem_inj : Function.Injective osem := by decide

theorem csem_inj : Function.Injective csem := by
  intro a b h
  cases a with
  | none => cases b with
    | none => rfl
    | some b => cases h
  | some a => cases b with
    | none => cases h
    | some b => exact congrArg some (osem_inj h)

open Classical in
/-- Which of the device's semaphores a semaphore is, if any. -/
def keyAt (sm : SemLoc sig) : Option Key := if h : ∃ k, csem k = sm then some h.choose else none

theorem keyAt_csem (k : Key) : keyAt (csem k) = some k := by
  have h : ∃ k', csem k' = csem k := ⟨k, rfl⟩
  unfold keyAt
  rw [dif_pos h]
  exact congrArg some (csem_inj h.choose_spec)

theorem keyAt_none {sm : SemLoc sig} (h : ∀ k, csem k ≠ sm) : keyAt sm = none :=
  dif_neg fun ⟨k, hk⟩ => h k hk

/-- Device `c`'s cell of a semaphore. -/
abbrev cell (c : Dev nD) (k : Key) : GSem nD τ sig := ((c : Thread nD τ), csem k)

/-- What one copy of sixty-four rows credits. -/
def N : ℕ := (chunkM 0).view.dmaCredit
theorem N_pos : 0 < N := View.dmaCredit_pos _ (by decide)

/-! ## The contents that travel -/

section Contents
variable (acc : Dev nD → Full F)

/-- What device `c` sends at step `s` of the reduce-scatter: the sum of the last `s + 1` devices' rows of its chunk. -/
def sent : ℕ → Dev nD → Rows F
  | 0, c => chunkOf (acc c) (ch c 0)
  | s + 1, c => addC (chunkOf (acc c) (ch c (s + 1))) (sent s (prv c))

/-- Chunk `j` when every device's rows are in. -/
def full (j : Fin 16) : Rows F := sent acc 15 (sh j 15)

/-! ## The schedule -/

/-- The rows of chunk `j` in the outputs of the devices that sent it at the steps in `I`. -/
def perms (I : Finset ℕ) (j : Fin 16) : sProp 𝕄 := bigSep I fun k => someO (F := F) (sh j k) j

instance perms_storable (I : Finset ℕ) (j : Fin 16) : BI.Storable (upEmb : UEmb _ 𝕄) (perms (F := F) I j) := by
  unfold perms; infer_instance

def barPay (c : Dev nD) : sProp 𝕄 := bigSep Finset.univ fun s => someB (F := F) (nxt c) s
def rsRecvPay (c : Dev nD) (s : Fin 15) : sProp 𝕄 :=
  iprop(ownB c s (sent acc s.val (prv c)) ∗ perms (Finset.range (s.val + 1)) (ch c (s.val + 1)))
def agSendPay (c : Dev nD) (s : Fin 15) : sProp 𝕄 := ownO c (ch (nxt c) s.val) (full acc (ch (nxt c) s.val))
def agRecvPay (c : Dev nD) (s : Fin 15) : sProp 𝕄 :=
  iprop(ownO c (ch c s.val) (full acc (ch c s.val)) ∗ perms (Finset.Ico (s.val + 1) 15) (ch c s.val))

/-- What device `c`'s semaphores hand over. -/
def pay (c : Dev nD) : Key → sProp 𝕄
  | none => barPay c
  | some (0, _) => iprop(emp)
  | some (1, s) => rsRecvPay acc c s
  | some (2, s) => agSendPay acc c s
  | some (3, s) => agRecvPay acc c s

instance pay_storable (c : Dev nD) (k : Key) : BI.Storable (upEmb : UEmb _ 𝕄) (pay acc c k) := by
  rcases k with _ | ⟨q, s⟩
  · show BI.Storable upEmb (barPay c); unfold barPay; infer_instance
  · fin_cases q
    · show BI.Storable upEmb (iprop(emp) : sProp 𝕄); infer_instance
    · show BI.Storable upEmb (rsRecvPay acc c s); unfold rsRecvPay; infer_instance
    · show BI.Storable upEmb (agSendPay acc c s); unfold agSendPay; infer_instance
    · show BI.Storable upEmb (agRecvPay acc c s); unfold agRecvPay; infer_instance

/-- What a credit is worth on each semaphore. -/
def amt : Key → ℕ
  | none => 1
  | some _ => N

theorem amt_pos (k : Key) : 0 < amt k := by cases k; exacts [Nat.one_pos, N_pos]

open Classical in
/-- One round; every cell of the protocol has one duty in it. -/
def Rd : Rounds.Schedule (GSem nD τ sig) Unit 𝕄 where
  duties g r := if r = 0 ∧ g.1.2 = .tc ∧ (keyAt g.2).isSome then {()} else ∅
  unitless _ := False
  amount g _ _ := (keyAt g.2).elim 1 amt
  payload g _ _ := (keyAt g.2).elim iprop(emp) (pay acc g.1.1)
  amount_pos g _ _ _ := by
    cases keyAt g.2 with
    | none => exact Nat.one_pos
    | some k => exact amt_pos k

instance Rd_payload_storable (g : GSem nD τ sig) (r : ℕ) (d : Unit) : BI.Storable (upEmb : UEmb _ 𝕄) ((Rd acc).payload g r d) := by
  show BI.Storable upEmb ((keyAt g.2).elim iprop(emp) (pay acc g.1.1))
  cases keyAt g.2 with
  | none => show BI.Storable upEmb (iprop(emp) : sProp 𝕄); infer_instance
  | some k => exact pay_storable acc g.1.1 k

theorem duties_cell (c : Dev nD) (k : Key) : (Rd acc).duties (cell c k) 0 = {()} :=
  if_pos ⟨rfl, rfl, by rw [keyAt_csem]; rfl⟩
theorem duties_later (g : GSem nD τ sig) : ∀ r, 1 ≤ r → (Rd acc).duties g r = ∅ :=
  fun r hr => if_neg fun h => by omega
theorem mem_duties (c : Dev nD) (k : Key) : () ∈ (Rd acc).duties (cell c k) 0 := by rw [duties_cell]; exact Finset.mem_singleton_self _
theorem amount_cell (c : Dev nD) (k : Key) : (Rd acc).amount (cell c k) 0 () = amt k := by
  show (keyAt (csem k)).elim 1 amt = amt k
  rw [keyAt_csem]; rfl
theorem payload_cell (c : Dev nD) (k : Key) : (Rd acc).payload (cell c k) 0 () = pay acc c k := by
  show (keyAt (csem k)).elim iprop(emp) (pay acc c) = pay acc c k
  rw [keyAt_csem]; rfl
theorem expect_cell (c : Dev nD) (k : Key) : (Rd acc).expect (cell c k) 0 = amt k := by
  unfold Schedule.expect Schedule.amountOf; rw [duties_cell, Finset.sum_singleton, amount_cell]
/-- What is left of a cell's round when nothing was taken: its payload. -/
theorem rest_cell (c : Dev nD) (k : Key) :
    bigSep ((Rd acc).duties (cell c k) 0 \ ∅) (fun d => (Rd acc).payload (cell c k) 0 d) = pay acc c k := by
  rw [Finset.sdiff_empty, duties_cell, bigSep_singleton, payload_cell]

end Contents

/-! ## Steps still to come and steps done -/

/-- The steps from `s` on, and those before `s`. -/
def stepsFrom (s : ℕ) : Finset (Fin 15) := Finset.univ.filter fun t => s ≤ t.val
def stepsTo (s : ℕ) : Finset (Fin 15) := Finset.univ.filter fun t => t.val < s

theorem stepsFrom_zero : stepsFrom 0 = Finset.univ := by decide
theorem stepsFrom_end : stepsFrom 15 = ∅ := by decide
theorem stepsTo_zero : stepsTo 0 = ∅ := by decide
theorem stepsTo_end : stepsTo 15 = Finset.univ := by decide
theorem notMem_stepsFrom (s : Fin 15) : s ∉ stepsFrom (s.val + 1) := by
  unfold stepsFrom; rw [Finset.mem_filter]; omega
theorem stepsFrom_eq (s : Fin 15) : stepsFrom s.val = insert s (stepsFrom (s.val + 1)) := by
  revert s; decide
theorem notMem_stepsTo (s : Fin 15) : s ∉ stepsTo s.val := by
  unfold stepsTo; rw [Finset.mem_filter]; omega
theorem stepsTo_succ (s : Fin 15) : stepsTo (s.val + 1) = insert s (stepsTo s.val) := by
  revert s; decide

/-! ## What each device owes; the levels -/

/-- The receive credits that device `c` still owes its right neighbour from step `s` on. -/
def rsOwed (c : Dev nD) (s : ℕ) : CellTallies nD τ sig Unit := ∑ t ∈ stepsFrom s, tallyAt (cell (nxt c) (some (1, t))) () N
def agOwed (c : Dev nD) (s : ℕ) : CellTallies nD τ sig Unit := ∑ t ∈ stepsFrom s, tallyAt (cell (nxt c) (some (3, t))) () N

/-- All that `c` owes at entry: the two phases' credits, and the left neighbour's barrier unit. -/
def owed₁ (c : Dev nD) : CellTallies nD τ sig Unit := agOwed c 0 + rsOwed c 0
def owed₀ (c : Dev nD) : CellTallies nD τ sig Unit := owed₁ c + tallyAt (cell (prv c) none) () 1

theorem rsOwed_step (c : Dev nD) (s : Fin 15) :
    rsOwed c s.val = rsOwed c (s.val + 1) + tallyAt (cell (nxt c) (some (1, s))) () N := by
  unfold rsOwed; rw [stepsFrom_eq, Finset.sum_insert (notMem_stepsFrom s), add_comm]
theorem agOwed_step (c : Dev nD) (s : Fin 15) :
    agOwed c s.val = agOwed c (s.val + 1) + tallyAt (cell (nxt c) (some (3, s))) () N := by
  unfold agOwed; rw [stepsFrom_eq, Finset.sum_insert (notMem_stepsFrom s), add_comm]
theorem rsOwed_end (c : Dev nD) : rsOwed c 15 = 0 := by unfold rsOwed; rw [stepsFrom_end]; rfl
theorem agOwed_end (c : Dev nD) : agOwed c 15 = 0 := by unfold agOwed; rw [stepsFrom_end]; rfl

theorem tally_pos {h g : GSem nD τ sig} {n : ℕ} {u : Unit} (hp : 0 < tallyAt h () n g u) : g = h := by
  rw [tallyAt_apply] at hp
  by_contra hn
  rw [if_neg fun h' => hn h'.1] at hp
  exact Nat.lt_irrefl 0 hp

theorem sum_tally_pos (S : Finset (Fin 15)) (f : Fin 15 → GSem nD τ sig) (n : ℕ) {g : GSem nD τ sig} {u : Unit}
    (hp : 0 < (∑ t ∈ S, tallyAt (f t) () n : CellTallies nD τ sig Unit) g u) : ∃ t ∈ S, g = f t := by
  classical
  induction S using Finset.induction_on with
  | empty => exact absurd hp (Nat.lt_irrefl 0)
  | insert t S ht ih =>
    rw [Finset.sum_insert ht, Pi.add_apply, Finsupp.add_apply] at hp
    rcases Nat.eq_zero_or_pos (tallyAt (f t) () n g u) with h0 | h0
    · rw [h0, Nat.zero_add] at hp
      obtain ⟨t', ht', e⟩ := ih hp
      exact ⟨t', Finset.mem_insert_of_mem ht', e⟩
    · exact ⟨t, Finset.mem_insert_self _ _, tally_pos h0⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: the barrier first, then the receive cells in the order of the steps; a device's own send cells lowest. -/
def klev : Key → ℕ
  | none => 1
  | some (0, _) => 0
  | some (1, s) => 2 + s.val
  | some (2, _) => 0
  | some (3, s) => 17 + s.val

def lv (g : GSem nD τ sig) (_ : Unit) : ℕ := (keyAt g.2).elim 0 klev

theorem lv_cell (c : Dev nD) (k : Key) (u : Unit) : lv (cell c k) u = klev k := by
  show (keyAt (csem k)).elim 0 klev = klev k
  rw [keyAt_csem]; rfl

/-- A wait is allowed when all that the waiter owes is on cells of a higher level. -/
theorem mayWait_of (c : Dev nD) (sm : SemLoc sig) (O : CellTallies nD τ sig Unit)
    (h : ∀ g u, 0 < O g u → ∃ d k, g = cell d k ∧ lv ((c : Thread nD τ), sm) () < klev k) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by obtain ⟨d, k, rfl, -⟩ := h g u hg; exact Finset.mem_singleton_self _)
    (fun p hp => by rw [Finset.mem_singleton.mp hp])
    (fun g u hg => by obtain ⟨d, k, rfl, hl⟩ := h g u hg; rw [lv_cell]; exact hl)

theorem rsOwed_pos {c : Dev nD} {s : ℕ} {g : GSem nD τ sig} {u : Unit} (h : 0 < rsOwed c s g u) :
    ∃ d k, g = cell d k ∧ 2 + s ≤ klev k := by
  obtain ⟨t, ht, rfl⟩ := sum_tally_pos _ _ _ h
  exact ⟨_, _, rfl, by unfold stepsFrom at ht; have := (Finset.mem_filter.mp ht).2; show 2 + s ≤ 2 + t.val; omega⟩
theorem agOwed_pos {c : Dev nD} {s : ℕ} {g : GSem nD τ sig} {u : Unit} (h : 0 < agOwed c s g u) :
    ∃ d k, g = cell d k ∧ 17 + s ≤ klev k := by
  obtain ⟨t, ht, rfl⟩ := sum_tally_pos _ _ _ h
  exact ⟨_, _, rfl, by unfold stepsFrom at ht; have := (Finset.mem_filter.mp ht).2; show 17 + s ≤ 17 + t.val; omega⟩

/-- What a device owes in the reduce-scatter, from step `s` on. -/
theorem owed_pos {c : Dev nD} {s s' : ℕ} (hs : s ≤ 15) {g : GSem nD τ sig} {u : Unit} (h : 0 < (agOwed c s' + rsOwed c s) g u) :
    ∃ d k, g = cell d k ∧ 2 + s ≤ klev k := by
  rw [Pi.add_apply, Finsupp.add_apply] at h
  rcases Nat.eq_zero_or_pos (agOwed c s' g u) with h0 | h0
  · rw [h0, Nat.zero_add] at h; exact rsOwed_pos h
  · obtain ⟨d, k, e, hl⟩ := agOwed_pos h0; exact ⟨d, k, e, by omega⟩

theorem owed₀_pos {c : Dev nD} {g : GSem nD τ sig} {u : Unit} (h : 0 < owed₀ c g u) : ∃ d k, g = cell d k ∧ 1 ≤ klev k := by
  unfold owed₀ at h
  rw [Pi.add_apply, Finsupp.add_apply] at h
  rcases Nat.eq_zero_or_pos (owed₁ c g u) with h0 | h0
  · rw [h0, Nat.zero_add] at h; exact ⟨_, _, tally_pos h, le_refl 1⟩
  · obtain ⟨d, k, e, hl⟩ := owed_pos (s := 0) (Nat.zero_le _) h0; exact ⟨d, k, e, by omega⟩

/-- The waits of the body, in program order. -/
theorem mayWait_bar (c : Dev nD) : (levAts L lv : sProp 𝕄) ⊢ MayWait (c : Thread nD τ) (csem none) () (owed₁ c) :=
  mayWait_of c _ _ fun g u h => by
    obtain ⟨d, k, e, hl⟩ := owed_pos (s := 0) (Nat.zero_le _) h
    exact ⟨d, k, e, by rw [lv_cell]; show 1 < klev k; omega⟩
theorem mayWait_rsSend (c : Dev nD) (s : Fin 15) :
    (levAts L lv : sProp 𝕄) ⊢ MayWait (c : Thread nD τ) (csem (some (0, s))) () (agOwed c 0 + rsOwed c (s.val + 1)) :=
  mayWait_of c _ _ fun g u h => by
    obtain ⟨d, k, e, hl⟩ := owed_pos s.isLt h
    exact ⟨d, k, e, by rw [lv_cell]; show 0 < klev k; omega⟩
theorem mayWait_rsRecv (c : Dev nD) (s : Fin 15) :
    (levAts L lv : sProp 𝕄) ⊢ MayWait (c : Thread nD τ) (csem (some (1, s))) () (agOwed c 0 + rsOwed c (s.val + 1)) :=
  mayWait_of c _ _ fun g u h => by
    obtain ⟨d, k, e, hl⟩ := owed_pos s.isLt h
    exact ⟨d, k, e, by rw [lv_cell]; show 2 + s.val < klev k; omega⟩
theorem mayWait_agSend (c : Dev nD) (s : Fin 15) :
    (levAts L lv : sProp 𝕄) ⊢ MayWait (c : Thread nD τ) (csem (some (2, s))) () (agOwed c (s.val + 1)) :=
  mayWait_of c _ _ fun g u h => by
    obtain ⟨d, k, e, hl⟩ := agOwed_pos h
    exact ⟨d, k, e, by rw [lv_cell]; show 0 < klev k; omega⟩
theorem mayWait_agRecv (c : Dev nD) (s : Fin 15) :
    (levAts L lv : sProp 𝕄) ⊢ MayWait (c : Thread nD τ) (csem (some (3, s))) () (agOwed c (s.val + 1)) :=
  mayWait_of c _ _ fun g u h => by
    obtain ⟨d, k, e, hl⟩ := agOwed_pos h
    exact ⟨d, k, e, by rw [lv_cell]; show 17 + s.val < klev k; omega⟩

/-- A wait on a semaphore outside the protocol, before the body and after it. -/
theorem mayWait_other (c : Dev nD) (sm : SemLoc sig) (h : ∀ k, csem k ≠ sm) (O : CellTallies nD τ sig Unit) (hO : O = owed₀ c ∨ O = 0) :
    (levAts L lv : sProp 𝕄) ⊢ MayWait (c : Thread nD τ) sm () O :=
  mayWait_of c _ _ fun g u hg => by
    rcases hO with rfl | rfl
    · obtain ⟨d, k, e, hl⟩ := owed₀_pos hg
      exact ⟨d, k, e, by show (keyAt sm).elim 0 klev < klev k; rw [keyAt_none h]; exact hl⟩
    · exact absurd hg (Nat.lt_irrefl 0)

end Cert.KernelIdealProof

end
-- ==== Proof.KernelIdeal.Phases.lean ====
/-
The two phases of the body: what a device holds before each step, and that a step leads from one such state to the next.

`rsAt c s` is device `c` before step `s` of the reduce-scatter, `agAt c s` before step `s` of the all-gather. A step is
proved once for every device and step number; the fifteen steps follow by induction.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (acc : Dev nD → Full F) (K : Dev nD × Key → ℕ)

/-! ## What everybody knows -/

/-- Every cell's invariant, that every cell has reached its round, and the levels. -/
def records : sProp 𝕄 :=
  iprop((bigSep Finset.univ fun p : Dev nD × Key => cellInv ER (Rd acc) (K p) (cell p.1 p.2))
    ∗ (bigSep Finset.univ fun p : Dev nD × Key => reached ER (cell p.1 p.2) 0) ∗ levAts L lv)

instance records_persistent : BI.Persistent (records acc K) := by unfold records; infer_instance

theorem records_inv (c : Dev nD) (k : Key) : records acc K ⊢ cellInv ER (Rd acc) (K (c, k)) (cell c k) := by
  unfold records
  iintro ⟨H, -, -⟩
  iapply (show (bigSep Finset.univ fun p : Dev nD × Key => cellInv ER (Rd acc) (K p) (cell p.1 p.2)) ⊢ cellInv ER (Rd acc) (K (c, k)) (cell c k) from
    bigSep_elim (Φ := fun p : Dev nD × Key => cellInv ER (Rd acc) (K p) (cell p.1 p.2)) (Finset.mem_univ (c, k)))
  iexact H
theorem records_reached (c : Dev nD) (k : Key) : records acc K ⊢ (reached ER (cell c k) 0 : sProp 𝕄) := by
  unfold records
  iintro ⟨-, H, -⟩
  iapply (show (bigSep Finset.univ fun p : Dev nD × Key => reached ER (cell p.1 p.2) 0) ⊢ (reached ER (cell c k) 0 : sProp 𝕄) from
    bigSep_elim (Φ := fun p : Dev nD × Key => (reached ER (cell p.1 p.2) 0 : sProp 𝕄)) (Finset.mem_univ (c, k)))
  iexact H
theorem records_may (c : Dev nD) (sm : SemLoc sig) (O : CellTallies nD τ sig Unit)
    (h : (levAts L lv : sProp 𝕄) ⊢ MayWait (c : Thread nD τ) sm () O) : records acc K ⊢ (MayWait (c : Thread nD τ) sm () O : sProp 𝕄) := by
  unfold records
  iintro ⟨-, -, H⟩
  iapply h
  iexact H

/-! ## The waits: a wait takes its cell's payload and closes the cell -/

/-- A DMA wait of the protocol: its credit and its position are spent, its payload comes, and its cell is closed at zero. -/
theorem wp_wait_cell (c : Dev nD) (q : Fin 4 × Fin 15) {s s' : Shape} {e e' : EltTy} {sp sp' : Space} {src : Memref sig .tc sp' s' e'}
    {dst : Memref sig .tc sp s e} {hsrc : src.view.WordExact} {hdst : dst.view.WordExact} (hN : dst.view.dmaCredit = N)
    (O : CellTallies nD τ sig Unit) (W : Waits sig Unit)
    (hw : (levAts L lv : sProp 𝕄) ⊢ MayWait (c : Thread nD τ) (csem (some q)) () O)
    {k : PUnit → Prog (TpuEff nD τ sig (Elt F) Λ₀ .tc) PUnit} {Q : PUnit → sProp 𝕄} :
    iprop(records acc K ∗ cred (tallyAt (cell c (some q)) () N) ∗ owes (c : Thread nD τ) O W ∗ atPos ER (cell c (some q)) 0 ∅ 0)
      ⊢ iprop(((owes (c : Thread nD τ) O (insert (csem (some q), ()) W) ∗ semVal (cell c (some q)) 0 ∗ pay acc c (some q))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semOf q.1 q.2) src dst hsrc hdst) k) Q) := by
  iintro ⟨#HR, Hc, HO, Hat⟩ Hk
  iapply (Rounds.wp_wait_rest_token 𝒱₀ ER (Rd acc) (c : Thread nD τ) none (κ := K (c, some q))
      (wpE_waitDma2_eq 𝒱₀ (c : Thread nD τ) none Set.univ) (Set.mem_univ _) () (O := O) (W := W) (R := 0) (m := 0) (T := ∅)
      (((Nat.zero_add _).trans hN).trans (expect_cell acc c (some q)).symm)) $$ [Hc HO Hat]
  · isplitr; · iapply (records_inv acc K c (some q)); iexact HR
    isplitl [Hc]; · rw [hN]; iexact Hc
    isplitl [HO]; · iexact HO
    isplitr; · iapply (records_may acc K c (csem (some q)) O hw); iexact HR
    iexact Hat
  iintro ⟨HO, Hat, -, Hpay⟩
  ihave Hp := (Entails.of_eq (rest_cell acc c (some q))) $$ Hpay
  imod (Rounds.cell_close ER (Rd acc) (Set.mem_univ (K (c, some q))) (fun h => h) (R := 0 + 1) (duties_later acc (cell c (some q)))) $$ [Hat] with Hz
  · isplitr; · iapply (records_inv acc K c (some q)); iexact HR
    iexact Hat
  iapply Hk
  isplitl [HO]; · iexact HO
  isplitl [Hz]; · iexact Hz
  iexact Hp

/-! ## The reduce-scatter -/

/-- What device `c` holds for step `t` of the reduce-scatter while the step is to come: its own rows of the chunk that it will
    accumulate, the right neighbour's slot, and the ghost state of the step's cells. -/
def rsTodo (c : Dev nD) (t : Fin 15) : sProp 𝕄 :=
  iprop(ownO c (ch c (t.val + 1)) (chunkOf (acc c) (ch c (t.val + 1))) ∗ someB (F := F) (nxt c) t
    ∗ dutyTok ER (cell c (some (0, t))) 0 () ∗ dutyTok ER (cell (nxt c) (some (1, t))) 0 ()
    ∗ atPos ER (cell c (some (0, t))) 0 ∅ 0 ∗ atPos ER (cell c (some (1, t))) 0 ∅ 0 ∗ cred (tallyAt (cell c (some (1, t))) () N))

/-- What is left of step `t` of the reduce-scatter when it is done. -/
def rsDone (c : Dev nD) (t : Fin 15) : sProp 𝕄 :=
  iprop(someB (F := F) c t ∗ semVal (cell c (some (0, t))) 0 ∗ semVal (cell c (some (1, t))) 0)

/-- Device `c` before step `s` of the reduce-scatter. -/
def rsAt (c : Dev nD) (s : ℕ) : sProp 𝕄 :=
  iprop((∃ W, owes (c : Thread nD τ) (agOwed c 0 + rsOwed c s) W) ∗ ownO c (ch c s) (sent acc s c) ∗ perms (F := F) (Finset.range s) (ch c s)
    ∗ bigSep (stepsFrom s) (rsTodo acc c) ∗ bigSep (stepsTo s) (rsDone (F := F) c))

/-- A list of steps still to come is its first and the others; a list of steps done grows by one. -/
theorem from_step (s : Fin 15) (Φ : Fin 15 → sProp 𝕄) : bigSep (stepsFrom s.val) Φ = iprop(Φ s ∗ bigSep (stepsFrom (s.val + 1)) Φ) := by
  rw [stepsFrom_eq s, bigSep_insert (notMem_stepsFrom s)]; rfl
theorem to_step (s : Fin 15) (Φ : Fin 15 → sProp 𝕄) : bigSep (stepsTo (s.val + 1)) Φ = iprop(Φ s ∗ bigSep (stepsTo s.val) Φ) := by
  rw [stepsTo_succ s, bigSep_insert (notMem_stepsTo s)]; rfl

/-- The landing of step `s` makes the receive cell's payload. -/
theorem rs_pay (c : Dev nD) (s : Fin 15) (fs : Buf (Elt F) ((chunkM (ch c s.val)).view.loc (c : Thread nD τ)))
    (fd : Buf (Elt F) ((slotM s).view.loc (nxt c : Thread nD τ))) (hfs : (chunkM (ch c s.val)).view.read (Elt F) fs = sent acc s.val c) :
    iprop((((slotM s).view.loc (nxt c : Thread nD τ) ↦[(slotM s).view.set]{fullShare}
              ((slotM s).view.write (Elt F) fd ((chunkM (ch c s.val)).view.read (Elt F) fs) Finset.univ)) ∗ perms (F := F) (Finset.range s.val) (ch c s.val))
          ∗ ((chunkM (ch c s.val)).view.loc (c : Thread nD τ) ↦[(chunkM (ch c s.val)).view.set]{fullShare} fs))
      ⊢ rsRecvPay acc (nxt c) s := by
  have hs : s.val < 15 := s.isLt
  unfold rsRecvPay ownB owns
  rw [prv_nxt, ch_nxt_succ c s.val (by omega), hfs]
  iintro ⟨⟨Hd, HF⟩, Hs⟩
  isplitl [Hd]
  · iexists _
    isplitr
    swap
    · iexact Hd
    · ipureintro
      exact View.read_write_univ _ _
  · unfold perms
    rw [Finset.range_add_one, bigSep_insert Finset.notMem_range_self, sh_ch c s.val (by omega)]
    iapply (show iprop(someO (F := F) c (ch c s.val) ∗ bigSep (Finset.range s.val) fun k => someO (F := F) (sh (ch c s.val) k) (ch c s.val)) ⊢ _ from .rfl)
    isplitl [Hs]
    · unfold someO owns
      iexists _, fs
      isplitr
      · ipureintro; rfl
      iexact Hs
    iexact HF

theorem rs_owed (c : Dev nD) (s : Fin 15) :
    agOwed c 0 + rsOwed c s.val = (agOwed c 0 + rsOwed c (s.val + 1)) + tallyAt (cell (nxt c) (some (1, s))) () N := by
  rw [rsOwed_step, add_assoc]

theorem slot_amount (s : Fin 15) (sm : DmaSem sig) : (slotM s).view.amount (.dma sm) = N := rfl
theorem slot_credit (s : Fin 15) : (slotM s).view.dmaCredit = N := rfl
theorem chunk_amount (j : Fin 16) (sm : DmaSem sig) : (chunkM j).view.amount (.dma sm) = N := rfl
theorem chunk_credit (j : Fin 16) : (chunkM j).view.dmaCredit = N := rfl

/-- The copy of step `s`: the source, the neighbour's slot and the permissions collected so far go with it. -/
theorem wp_send_rs (c : Dev nD) (s : Fin 15) {hsc : (slotM s : Memref sig (Dev.tc (nxt c) : Thread nD τ).2.kind .vmem S64x1024 .f32).view.ref.isScScratch = false}
    {hsrc : (chunkM (ch c s.val)).view.WordExact} {hdst : (slotM s).view.WordExact}
    {hsem : DmaTarget.Typed .vmem (.dma (rsRecv s)) (.remote (Dev.tc (nxt c) : Thread nD τ) (slotM s) (.dma (rsSend s)) hsc)}
    {Q : PUnit → sProp 𝕄} {k : PUnit → Prog (TpuEff nD τ sig (Elt F) Λ₀ .tc) PUnit} (W : Waits sig Unit) :
    iprop(records acc K ∗ ownO c (ch c s.val) (sent acc s.val c) ∗ someB (F := F) (nxt c) s ∗ perms (F := F) (Finset.range s.val) (ch c s.val)
        ∗ owes (c : Thread nD τ) (agOwed c 0 + rsOwed c s.val) W
        ∗ dutyTok ER (cell c (some (0, s))) 0 () ∗ dutyTok ER (cell (nxt c) (some (1, s))) 0 ())
      ⊢ iprop(((cred (tallyAt (cell c (some (0, s))) () N) ∗ owes (c : Thread nD τ) (agOwed c 0 + rsOwed c (s.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chunkM (ch c s.val)) (.remote (Dev.tc (nxt c) : Thread nD τ) (slotM s) (.dma (rsSend s)) hsc) (.dma (rsRecv s)) hsrc hdst hsem) k) Q) := by
  unfold ownO someB owns
  iintro ⟨#HR, ⟨%fs, %hfs, Hsrc⟩, ⟨%v, %fd, -, Hdst⟩, HF, HO, Ht1, Ht2⟩ Hk
  iapply (Rounds.wp_send_landing_pointsTo_with 𝒱₀ ER (Rd acc) (c : Thread nD τ) none (κ₁ := K (c, some (0, s))) (κ₂ := K (nxt c, some (1, s)))
    (c' := (nxt c : Thread nD τ)) (src := chunkM (ch c s.val)) (dst := slotM s) (sS := .dma (rsSend s)) (sem := .dma (rsRecv s)) (hsc := hsc)
    (r₁ := 0) (r₂ := 0) (d₁ := ()) (d₂ := ()) (fd := fd) (fs := fs) (F := perms (F := F) (Finset.range s.val) (ch c s.val)) (q := fullShare)
    (mem_duties acc c (some (0, s))) (mem_duties acc (nxt c) (some (1, s)))
    () () N (slot_amount s _) (amount_cell acc c (some (0, s))) (amount_cell acc (nxt c) (some (1, s)))
    (agOwed c 0 + rsOwed c (s.val + 1)) (rs_owed c s) (W := W)
    (Entails.of_eq (payload_cell acc c (some (0, s))).symm)
    ((rs_pay acc c s fs fd hfs).trans (Entails.of_eq (payload_cell acc (nxt c) (some (1, s))).symm))) $$ [Hsrc Hdst HF HO Ht1 Ht2]
  · isplitr; · iapply (records_inv acc K c (some (0, s))); iexact HR
    isplitr; · iapply (records_inv acc K (nxt c) (some (1, s))); iexact HR
    isplitl [Hsrc]; · iexact Hsrc
    isplitl [Hdst HF]
    · isplitl [Hdst]; · iexact Hdst
      iexact HF
    isplitl [HO]; · iexact HO
    isplitl [Ht1]; · iexact Ht1
    isplitr; · iapply (records_reached acc K c (some (0, s))); iexact HR
    isplitl [Ht2]; · iexact Ht2
    iapply (records_reached acc K (nxt c) (some (1, s))); iexact HR
  iexact Hk

/-- One step of the reduce-scatter. -/
theorem rs_step (c : Dev nD) (s : Fin 15) (k : Body F) (Q : PUnit → sProp 𝕄) :
    iprop(records acc K ∗ rsAt acc c s.val ∗ (rsAt acc c (s.val + 1) -∗ wp frame (wpE (defs₀ (F := F)) 𝒱₀ (c : Thread nD τ) none) Set.univ k Q))
      ⊢ wp frame (wpE (defs₀ (F := F)) 𝒱₀ (c : Thread nD τ) none) Set.univ (rsStep c s k) Q := by
  rw [rsStep_eq]
  unfold rsStepOn rsAt
  rw [from_step s]
  iintro ⟨#HR, ⟨⟨%W, HO⟩, Hc, HP, ⟨Hs, Htodo⟩, Hdone⟩, Hk⟩
  unfold rsTodo
  icases Hs with ⟨Hn, Hb, Ht1, Ht2, Hp1, Hp2, Hcr⟩
  iapply (wp_send_rs acc K c s W) $$ [Hc Hb HP HO Ht1 Ht2]
  · isplitr; · iexact HR
    isplitl [Hc]; · iexact Hc
    isplitl [Hb]; · iexact Hb
    isplitl [HP]; · iexact HP
    isplitl [HO]; · iexact HO
    isplitl [Ht1]; · iexact Ht1
    iexact Ht2
  iintro ⟨Hcs, HO⟩
  iapply (wp_wait_cell acc K c (0, s) (chunk_credit (ch c s.val)) _ W (mayWait_rsSend c s)) $$ [Hcs HO Hp1]
  · isplitr; · iexact HR
    isplitl [Hcs]; · iexact Hcs
    isplitl [HO]; · iexact HO
    iexact Hp1
  iintro ⟨HO, Hz1, -⟩
  iapply (wp_wait_cell acc K c (1, s) (slot_credit s) _ _ (mayWait_rsRecv c s)) $$ [Hcr HO Hp2]
  · isplitr; · iexact HR
    isplitl [Hcr]; · iexact Hcr
    isplitl [HO]; · iexact HO
    iexact Hp2
  iintro ⟨HO, Hz2, Hpay⟩
  ihave Hpay' := (show pay acc c (some (1, s)) ⊢ iprop(ownB c s (sent acc s.val (prv c)) ∗ perms (Finset.range (s.val + 1)) (ch c (s.val + 1))) from .rfl) $$ Hpay
  icases Hpay' with ⟨Hb, HP⟩
  iapply (wp_load_chunk c (ch c (s.val + 1)) _) $$ Hn
  iintro Hn
  iapply (wp_load_slot c s _) $$ Hb
  iintro %w' %hw Hb
  iapply (wp_load_chunk c (ch c (s.val + 1)) _) $$ Hn
  iintro Hn
  iapply (wp_store_chunk c (ch c (s.val + 1)) _ _) $$ Hn
  iintro Hn
  iapply Hk
  isplitl [HO]; · iexists _; iexact HO
  isplitl [Hn]
  · rw [hw]; iexact Hn
  isplitl [HP]; · iexact HP
  isplitl [Htodo]; · iexact Htodo
  rw [to_step s]
  isplitr [Hdone]
  · unfold rsDone
    isplitl [Hb]; · iapply (ownB_some c s _); iexact Hb
    isplitl [Hz1]; · iexact Hz1
    iexact Hz2
  iexact Hdone

/-- Fifteen steps from one state to the last, when each leads to the next. -/
theorem all_steps (c : Dev nD) (R : sProp 𝕄) [BI.Persistent R] (At : ℕ → sProp 𝕄) (step : Fin 15 → Body F → Body F)
    (h : ∀ (s : Fin 15) (k : Body F) (Q : PUnit → sProp 𝕄),
      iprop(R ∗ At s.val ∗ (At (s.val + 1) -∗ wp frame (wpE (defs₀ (F := F)) 𝒱₀ (c : Thread nD τ) none) Set.univ k Q))
        ⊢ wp frame (wpE (defs₀ (F := F)) 𝒱₀ (c : Thread nD τ) none) Set.univ (step s k) Q)
    (k : Body F) (Q : PUnit → sProp 𝕄) (n : ℕ) (hn : n ≤ 15) :
    iprop(R ∗ At (15 - n) ∗ (At 15 -∗ wp frame (wpE (defs₀ (F := F)) 𝒱₀ (c : Thread nD τ) none) Set.univ k Q))
      ⊢ wp frame (wpE (defs₀ (F := F)) 𝒱₀ (c : Thread nD τ) none) Set.univ (lastSteps step k n) Q := by
  induction n with
  | zero =>
    show iprop(R ∗ At 15 ∗ (At 15 -∗ wp frame (wpE (defs₀ (F := F)) 𝒱₀ (c : Thread nD τ) none) Set.univ k Q))
      ⊢ wp frame (wpE (defs₀ (F := F)) 𝒱₀ (c : Thread nD τ) none) Set.univ k Q
    iintro ⟨-, HA, Hk⟩
    iapply Hk
    iexact HA
  | succ n ih =>
    have h1 : (⟨14 - n, Nat.lt_succ_of_le (Nat.sub_le 14 n)⟩ : Fin 15).val = 15 - (n + 1) := by show 14 - n = 15 - (n + 1); omega
    have h2 : (⟨14 - n, Nat.lt_succ_of_le (Nat.sub_le 14 n)⟩ : Fin 15).val + 1 = 15 - n := by show 14 - n + 1 = 15 - n; omega
    have hstep := h ⟨14 - n, Nat.lt_succ_of_le (Nat.sub_le 14 n)⟩ (lastSteps step k n) Q
    rw [h1, ← h1, h2, h1] at hstep
    show _ ⊢ wp frame (wpE (defs₀ (F := F)) 𝒱₀ (c : Thread nD τ) none) Set.univ (step ⟨14 - n, Nat.lt_succ_of_le (Nat.sub_le 14 n)⟩ (lastSteps step k n)) Q
    iintro ⟨#HR, HA, Hk⟩
    iapply hstep
    isplitr; · iexact HR
    isplitl [HA]; · iexact HA
    iintro HA
    iapply (ih (by omega))
    isplitr; · iexact HR
    isplitl [HA]; · iexact HA
    iexact Hk

/-- The whole reduce-scatter. -/
theorem rs_phase (c : Dev nD) (k : Body F) (Q : PUnit → sProp 𝕄) :
    iprop(records acc K ∗ rsAt acc c 0 ∗ (rsAt acc c 15 -∗ wp frame (wpE (defs₀ (F := F)) 𝒱₀ (c : Thread nD τ) none) Set.univ k Q))
      ⊢ wp frame (wpE (defs₀ (F := F)) 𝒱₀ (c : Thread nD τ) none) Set.univ (lastSteps (rsStep c) k 15) Q :=
  all_steps c (records acc K) (rsAt acc c) (rsStep c) (rs_step acc K c) k Q 15 (Nat.le_refl 15)

/-! ## The all-gather -/

/-- The ghost state of step `t` of the all-gather while it is to come. -/
def agTodo (c : Dev nD) (t : Fin 15) : sProp 𝕄 :=
  iprop(dutyTok ER (cell c (some (2, t))) 0 () ∗ dutyTok ER (cell (nxt c) (some (3, t))) 0 ()
    ∗ atPos ER (cell c (some (2, t))) 0 ∅ 0 ∗ atPos ER (cell c (some (3, t))) 0 ∅ 0 ∗ cred (tallyAt (cell c (some (3, t))) () N))

/-- What is left of it when it is done: the chunk it sent, and its semaphores at zero. -/
def agDone (c : Dev nD) (t : Fin 15) : sProp 𝕄 :=
  iprop(ownO c (ch (nxt c) t.val) (full acc (ch (nxt c) t.val)) ∗ semVal (cell c (some (2, t))) 0 ∗ semVal (cell c (some (3, t))) 0)

/-- Device `c` before step `s` of the all-gather. -/
def agAt (c : Dev nD) (s : ℕ) : sProp 𝕄 :=
  iprop((∃ W, owes (c : Thread nD τ) (agOwed c s) W) ∗ ownO c (ch (nxt c) s) (full acc (ch (nxt c) s)) ∗ perms (F := F) (Finset.Ico s 15) (ch (nxt c) s)
    ∗ bigSep (stepsFrom s) (agTodo (F := F) c) ∗ bigSep (stepsTo s) (agDone acc c))

/-- The landing of step `s` makes the receive cell's payload. -/
theorem ag_pay (c : Dev nD) (s : Fin 15) (fs : Buf (Elt F) ((chunkM (ch (nxt c) s.val)).view.loc (c : Thread nD τ)))
    (fd : Buf (Elt F) ((chunkM (ch (nxt c) s.val)).view.loc (nxt c : Thread nD τ)))
    (hfs : (chunkM (ch (nxt c) s.val)).view.read (Elt F) fs = full acc (ch (nxt c) s.val)) :
    iprop(((chunkM (ch (nxt c) s.val)).view.loc (nxt c : Thread nD τ) ↦[(chunkM (ch (nxt c) s.val)).view.set]{fullShare}
              ((chunkM (ch (nxt c) s.val)).view.write (Elt F) fd ((chunkM (ch (nxt c) s.val)).view.read (Elt F) fs) Finset.univ))
          ∗ perms (F := F) (Finset.Ico (s.val + 1) 15) (ch (nxt c) s.val))
      ⊢ agRecvPay acc (nxt c) s := by
  unfold agRecvPay ownO owns
  rw [hfs]
  iintro ⟨Hd, HF⟩
  isplitl [Hd]
  · iexists _
    isplitr
    swap
    · iexact Hd
    · ipureintro
      exact View.read_write_univ _ _
  iexact HF

/-- The source of step `s` makes the send cell's payload. -/
theorem ag_back (c : Dev nD) (s : Fin 15) (fs : Buf (Elt F) ((chunkM (ch (nxt c) s.val)).view.loc (c : Thread nD τ)))
    (hfs : (chunkM (ch (nxt c) s.val)).view.read (Elt F) fs = full acc (ch (nxt c) s.val)) :
    ((chunkM (ch (nxt c) s.val)).view.loc (c : Thread nD τ) ↦[(chunkM (ch (nxt c) s.val)).view.set]{fullShare} fs : sProp 𝕄) ⊢ agSendPay acc c s := by
  unfold agSendPay ownO owns
  iintro H
  iexists fs
  isplitr
  · ipureintro; exact hfs
  iexact H

/-- The rows of the chunk on the right neighbour are the first of the permissions. -/
theorem perms_first (c : Dev nD) (s : Fin 15) :
    (perms (F := F) (Finset.Ico s.val 15) (ch (nxt c) s.val) : sProp 𝕄)
      ⊢ iprop(someO (F := F) (nxt c) (ch (nxt c) s.val) ∗ perms (F := F) (Finset.Ico (s.val + 1) 15) (ch (nxt c) s.val)) := by
  have hs : s.val < 15 := s.isLt
  unfold perms
  have hI : Finset.Ico s.val 15 = insert s.val (Finset.Ico (s.val + 1) 15) := by
    ext i; simp only [Finset.mem_Ico, Finset.mem_insert]; omega
  rw [hI, bigSep_insert (by simp), sh_ch (nxt c) s.val (by omega)]
  exact .rfl

/-- The copy of step `s` of the all-gather. -/
theorem wp_send_ag (c : Dev nD) (s : Fin 15) {hsc : (chunkM (ch (nxt c) s.val) : Memref sig (Dev.tc (nxt c) : Thread nD τ).2.kind .vmem S64x1024 .f32).view.ref.isScScratch = false}
    {hsrc hdst : (chunkM (ch (nxt c) s.val)).view.WordExact}
    {hsem : DmaTarget.Typed .vmem (.dma (agRecv s)) (.remote (Dev.tc (nxt c) : Thread nD τ) (chunkM (ch (nxt c) s.val)) (.dma (agSend s)) hsc)}
    {Q : PUnit → sProp 𝕄} {k : PUnit → Prog (TpuEff nD τ sig (Elt F) Λ₀ .tc) PUnit} (W : Waits sig Unit) :
    iprop(records acc K ∗ ownO c (ch (nxt c) s.val) (full acc (ch (nxt c) s.val)) ∗ perms (F := F) (Finset.Ico s.val 15) (ch (nxt c) s.val)
        ∗ owes (c : Thread nD τ) (agOwed c s.val) W
        ∗ dutyTok ER (cell c (some (2, s))) 0 () ∗ dutyTok ER (cell (nxt c) (some (3, s))) 0 ())
      ⊢ iprop(((cred (tallyAt (cell c (some (2, s))) () N) ∗ owes (c : Thread nD τ) (agOwed c (s.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chunkM (ch (nxt c) s.val)) (.remote (Dev.tc (nxt c) : Thread nD τ) (chunkM (ch (nxt c) s.val)) (.dma (agSend s)) hsc) (.dma (agRecv s)) hsrc hdst hsem) k) Q) := by
  iintro ⟨#HR, Hsrc, HP, HO, Ht1, Ht2⟩ Hk
  ihave HP' := (perms_first c s) $$ HP
  unfold ownO someO owns
  icases HP' with ⟨⟨%v, %fd, -, Hdst⟩, HF⟩
  icases Hsrc with ⟨%fs, %hfs, Hsrc⟩
  iapply (Rounds.wp_send_pointsTo_with 𝒱₀ ER (Rd acc) (c : Thread nD τ) none (κ₁ := K (c, some (2, s))) (κ₂ := K (nxt c, some (3, s)))
    (c' := (nxt c : Thread nD τ)) (src := chunkM (ch (nxt c) s.val)) (dst := chunkM (ch (nxt c) s.val)) (sS := .dma (agSend s)) (sem := .dma (agRecv s)) (hsc := hsc)
    (r₁ := 0) (r₂ := 0) (d₁ := ()) (d₂ := ()) (fd := fd) (fs := fs) (F := perms (F := F) (Finset.Ico (s.val + 1) 15) (ch (nxt c) s.val)) (q := fullShare)
    (mem_duties acc c (some (2, s))) (mem_duties acc (nxt c) (some (3, s)))
    () () N (chunk_amount _ _) (amount_cell acc c (some (2, s))) (amount_cell acc (nxt c) (some (3, s)))
    (agOwed c (s.val + 1)) (agOwed_step c s) (W := W)
    ((ag_back acc c s fs hfs).trans (Entails.of_eq (payload_cell acc c (some (2, s))).symm))
    ((ag_pay acc c s fs fd hfs).trans (Entails.of_eq (payload_cell acc (nxt c) (some (3, s))).symm))) $$ [Hsrc Hdst HF HO Ht1 Ht2]
  · isplitr; · iapply (records_inv acc K c (some (2, s))); iexact HR
    isplitr; · iapply (records_inv acc K (nxt c) (some (3, s))); iexact HR
    isplitl [Hsrc]; · iexact Hsrc
    isplitl [Hdst HF]
    · isplitl [Hdst]; · iexact Hdst
      iexact HF
    isplitl [HO]; · iexact HO
    isplitl [Ht1]; · iexact Ht1
    isplitr; · iapply (records_reached acc K c (some (2, s))); iexact HR
    isplitl [Ht2]; · iexact Ht2
    iapply (records_reached acc K (nxt c) (some (3, s))); iexact HR
  iexact Hk

/-- One step of the all-gather. -/
theorem ag_step (c : Dev nD) (s : Fin 15) (k : Body F) (Q : PUnit → sProp 𝕄) :
    iprop(records acc K ∗ agAt acc c s.val ∗ (agAt acc c (s.val + 1) -∗ wp frame (wpE (defs₀ (F := F)) 𝒱₀ (c : Thread nD τ) none) Set.univ k Q))
      ⊢ wp frame (wpE (defs₀ (F := F)) 𝒱₀ (c : Thread nD τ) none) Set.univ (agStep c s k) Q := by
  have hs : s.val < 15 := s.isLt
  rw [agStep_eq]
  unfold agStepOn agAt
  rw [from_step s]
  iintro ⟨#HR, ⟨⟨%W, HO⟩, Hc, HP, ⟨Hs, Htodo⟩, Hdone⟩, Hk⟩
  unfold agTodo
  icases Hs with ⟨Ht1, Ht2, Hp1, Hp2, Hcr⟩
  iapply (wp_send_ag acc K c s W) $$ [Hc HP HO Ht1 Ht2]
  · isplitr; · iexact HR
    isplitl [Hc]; · iexact Hc
    isplitl [HP]; · iexact HP
    isplitl [HO]; · iexact HO
    isplitl [Ht1]; · iexact Ht1
    iexact Ht2
  iintro ⟨Hcs, HO⟩
  iapply (wp_wait_cell acc K c (2, s) (chunk_credit (ch (nxt c) s.val)) _ W (mayWait_agSend c s)) $$ [Hcs HO Hp1]
  · isplitr; · iexact HR
    isplitl [Hcs]; · iexact Hcs
    isplitl [HO]; · iexact HO
    iexact Hp1
  iintro ⟨HO, Hz1, Hback⟩
  iapply (wp_wait_cell acc K c (3, s) (chunk_credit (ch (nxt c) s.val)) _ _ (mayWait_agRecv c s)) $$ [Hcr HO Hp2]
  · isplitr; · iexact HR
    isplitl [Hcr]; · iexact Hcr
    isplitl [HO]; · iexact HO
    iexact Hp2
  iintro ⟨HO, Hz2, Hpay⟩
  ihave Hpay' := (show pay acc c (some (3, s)) ⊢ iprop(ownO c (ch c s.val) (full acc (ch c s.val)) ∗ perms (Finset.Ico (s.val + 1) 15) (ch c s.val)) from .rfl) $$ Hpay
  icases Hpay' with ⟨Hc, HP⟩
  iapply Hk
  rw [ch_nxt_succ c s.val (by omega)]
  isplitl [HO]; · iexists _; iexact HO
  isplitl [Hc]; · iexact Hc
  isplitl [HP]; · iexact HP
  isplitl [Htodo]; · iexact Htodo
  rw [to_step s]
  isplitr [Hdone]
  · unfold agDone
    isplitl [Hback]
    · iapply (show pay acc c (some (2, s)) ⊢ ownO c (ch (nxt c) s.val) (full acc (ch (nxt c) s.val)) from .rfl); iexact Hback
    isplitl [Hz1]; · iexact Hz1
    iexact Hz2
  iexact Hdone

/-- The whole all-gather. -/
theorem ag_phase (c : Dev nD) (k : Body F) (Q : PUnit → sProp 𝕄) :
    iprop(records acc K ∗ agAt acc c 0 ∗ (agAt acc c 15 -∗ wp frame (wpE (defs₀ (F := F)) 𝒱₀ (c : Thread nD τ) none) Set.univ k Q))
      ⊢ wp frame (wpE (defs₀ (F := F)) 𝒱₀ (c : Thread nD τ) none) Set.univ (lastSteps (agStep c) k 15) Q :=
  all_steps c (records acc K) (agAt acc c) (agStep c) (ag_step acc K c) k Q 15 (Nat.le_refl 15)

/-! ## From one phase to the other, and the end -/

/-- The end of the reduce-scatter is the start of the all-gather, once the ghost state of the latter is added; the scratch
    slots and the closed cells of the reduce-scatter stay aside. -/
theorem rs_to_ag (c : Dev nD) :
    iprop(rsAt acc c 15 ∗ bigSep Finset.univ (agTodo (F := F) c)) ⊢ iprop(agAt acc c 0 ∗ bigSep Finset.univ (rsDone (F := F) c)) := by
  unfold rsAt agAt
  rw [rsOwed_end, add_zero, stepsFrom_end, stepsTo_end, stepsFrom_zero, stepsTo_zero, ← ch_last c, bigSep_empty, bigSep_empty]
  iintro ⟨⟨HO, Hc, HP, -, Hdone⟩, Htodo⟩
  isplitr [Hdone]
  · isplitl [HO]; · iexact HO
    isplitl [Hc]
    · unfold full; rw [sh_ch c 15 (by decide)]; iexact Hc
    isplitl [HP]; · rw [← Finset.range_eq_Ico]; iexact HP
    isplitl [Htodo]; · iexact Htodo
    iempintro
  iexact Hdone

end Cert.KernelIdealProof

end
-- ==== Proof.KernelIdeal.Body.lean ====
/-
The whole body on one device: the handshake, the device's own contribution, the two phases, and what stands at the end.

At the end every chunk of the output holds the sum of all devices' rows of it, so the output holds `total acc`.
-/
module

public import proofs.«01_k».proof.Proof.KernelIdeal.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (acc : Dev nD → Full F) (K : Dev nD × Key → ℕ)

/-! ## The result -/

/-- The chunk that an element of the output lies in. -/
def chunkAt (i : S1024x1024.Idx) : Fin 16 := ⟨(i 0).val / 64, by have : (i 0).val < 1024 := (i 0).isLt; omega⟩

theorem chunkAt_lt (i : S1024x1024.Idx) : ∀ a, (i a).val - cOff (chunkAt i) a < S64x1024.size a := fun a => by
  have h0 : (i 0).val < 1024 := (i 0).isLt
  have h1 : (i 1).val < 1024 := (i 1).isLt
  match a with
  | ⟨0, _⟩ => show (i 0).val - 64 * ((i 0).val / 64) < 64; omega
  | ⟨1, _⟩ => show (i 1).val - 0 < 1024; omega

/-- Its place in the chunk. -/
def placeAt (i : S1024x1024.Idx) : S64x1024.Idx := fun a => ⟨(i a).val - cOff (chunkAt i) a, chunkAt_lt i a⟩

/-- The output of every device when all is done: each chunk as the ring finished it. -/
def total : Full F := fun i => full acc (chunkAt i) (placeAt i)

theorem chunkAt_emb (j : Fin 16) (k : S64x1024.Idx) : chunkAt ((chunkR j).emb k) = j := by
  have h0 : (k 0).val < 64 := (k 0).isLt
  have hv : (((chunkR j).emb k) 0).val = 64 * j.val + 1 * (k 0).val := rfl
  refine Fin.ext ?_
  show (((chunkR j).emb k) 0).val / 64 = j.val
  rw [hv]; omega

theorem placeAt_emb (j : Fin 16) (k : S64x1024.Idx) : placeAt ((chunkR j).emb k) = k := by
  funext a
  refine Fin.ext ?_
  show (((chunkR j).emb k) a).val - cOff (chunkAt ((chunkR j).emb k)) a = (k a).val
  rw [chunkAt_emb]
  show cOff j a + 1 * (k a).val - cOff j a = (k a).val
  omega

theorem total_chunk (j : Fin 16) : chunkOf (total acc) j = full acc j := by
  funext k
  show full acc (chunkAt ((chunkR j).emb k)) (placeAt ((chunkR j).emb k)) = full acc j k
  rw [chunkAt_emb, placeAt_emb]

/-! ## Fifteen and one -/

theorem bigSep_first (Φ : Fin 16 → sProp 𝕄) : bigSep Finset.univ Φ = iprop(Φ 0 ∗ bigSep Finset.univ fun t : Fin 15 => Φ t.succ) := by
  rw [show (Finset.univ : Finset (Fin 16)) = insert 0 (Finset.univ.map (Fin.succEmb 15)) from by decide, bigSep_insert (by decide), bigSep_map]
  rfl

theorem bigSep_last (Φ : Fin 16 → sProp 𝕄) : bigSep Finset.univ Φ = iprop(Φ (Fin.last 15) ∗ bigSep Finset.univ fun t : Fin 15 => Φ t.castSucc) := by
  rw [show (Finset.univ : Finset (Fin 16)) = insert (Fin.last 15) (Finset.univ.map Fin.castSuccEmb) from by decide, bigSep_insert (by decide), bigSep_map]
  rfl

/-- The output at a device's contribution, as the reduce-scatter takes it: the chunk to send first, then those to add to. -/
theorem out_start (c : Dev nD) :
    (owns (c : Thread nD τ) oM fullShare (acc c) : sProp 𝕄)
      ⊢ iprop(ownO c (ch c 0) (sent acc 0 c) ∗ bigSep Finset.univ fun t : Fin 15 => ownO c (ch c (t.val + 1)) (chunkOf (acc c) (ch c (t.val + 1)))) :=
  (out_chunks c (acc c)).trans (Entails.of_eq (by
    rw [bigSep_univ_equiv (chEquiv c), bigSep_first]; rfl))

/-- The finished chunks are the output at the result. -/
theorem out_end (c : Dev nD) :
    iprop(ownO c (ch (nxt c) 15) (full acc (ch (nxt c) 15)) ∗ bigSep Finset.univ fun t : Fin 15 => ownO c (ch (nxt c) t.val) (full acc (ch (nxt c) t.val)))
      ⊢ (owns (c : Thread nD τ) oM fullShare (total acc) : sProp 𝕄) :=
  (Entails.of_eq (by
    rw [bigSep_congr (fun (j : Fin 16) _ => congrArg (ownO (F := F) c j) (total_chunk acc j)), bigSep_univ_equiv (chEquiv (nxt c)), bigSep_last]; rfl)).trans
    (chunks_out c (total acc))

/-! ## What the body starts from and ends with -/

/-- A device's ghost state for step `t` of the reduce-scatter. -/
def rsGhost (c : Dev nD) (t : Fin 15) : sProp 𝕄 :=
  iprop(dutyTok ER (cell c (some (0, t))) 0 () ∗ dutyTok ER (cell (nxt c) (some (1, t))) 0 ()
    ∗ atPos ER (cell c (some (0, t))) 0 ∅ 0 ∗ atPos ER (cell c (some (1, t))) 0 ∅ 0 ∗ cred (tallyAt (cell c (some (1, t))) () N))

/-- A device's ghost state at entry. -/
def ghost (c : Dev nD) : sProp 𝕄 :=
  iprop(atPos ER (cell c none) 0 ∅ 0 ∗ dutyTok ER (cell (prv c) none) 0 () ∗ cred (tallyAt (cell c none) () 1)
    ∗ bigSep Finset.univ (rsGhost (F := F) c) ∗ bigSep Finset.univ (agTodo (F := F) c))

/-- The device's semaphores, all at zero. -/
def closed (c : Dev nD) : sProp 𝕄 :=
  iprop(semVal (cell c none) 0 ∗ bigSep Finset.univ fun q : Fin 4 × Fin 15 => semVal (cell c (some q)) 0)

/-- Expert `e`'s matrix as the body loads it from the staged block. -/
def wBlk (w : S4x512x1024.Idx → Elt F .f32) (e : Fin 4) : Vec F S1x512x1024 .f32 :=
  wM.view.readAt (Elt F) (Rect.unit (s := S4x512x1024) (wR e) S1x512x1024.size (w_inb e)).toLoadRect w

abbrev at_ (c : Dev nD) (b : Ref sig .tc) (X : b.ty.Contents (Elt F)) : sProp 𝕄 := (((c : Thread nD τ).loc b) ↦{fullShare} X)

theorem hz2 : (![0, 0] : Fin 2 → ℕ) = fun _ => 0 := funext fun a => by fin_cases a <;> rfl

theorem read_x (f : (cc0_stg0_0 : Ref sig .tc).ty.Contents (Elt F)) :
    xM.view.readAt (Elt F) (Rect.unit (s := S1024x512) ![0, 0] S1024x512.size inb_S1024x512_S1024x512_0_0).toLoadRect f = f :=
  Memref.readAt_unit_zero (Elt F) cc0_stg0_0 hz2 _ f
theorem read_i (f : (cc0_stg1_0 : Ref sig .tc).ty.Contents (Elt F)) :
    iM.view.readAt (Elt F) (Rect.unit (s := S1024x1) ![0, 0] S1024x1.size inb_S1024x1_S1024x1_0_0).toLoadRect f = f :=
  Memref.readAt_unit_zero (Elt F) cc0_stg1_0 hz2 _ f
theorem write_o (f w : (cc0_stg3_0 : Ref sig .tc).ty.Contents (Elt F)) :
    ((oM : Memref sig .tc .vmem S1024x1024 .f32).access (Rect.unit (s := S1024x1024) ![0, 0] S1024x1024.size inb_S1024x1024_S1024x1024_0_0) : View sig .tc _ _ _).write
      (Elt F) f w Finset.univ = w :=
  Memref.write_access_unit_zero_univ (Elt F) cc0_stg3_0 hz2 _ f w

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The prologue -/

/-- The loads and the store: the output holds the device's contribution. -/
theorem wp_prologue (c : Dev nD) (x : (cc0_stg0_0 : Ref sig .tc).ty.Contents (Elt F)) (ix : (cc0_stg1_0 : Ref sig .tc).ty.Contents (Elt F))
    (w : (cc0_stg2_0 : Ref sig .tc).ty.Contents (Elt F)) (o : (cc0_stg3_0 : Ref sig .tc).ty.Contents (Elt F))
    (hacc : acc c = contrib c x ix (wBlk w)) (W : Waits sig Unit) (k : Body F) (Q : PUnit → sProp 𝕄) :
    iprop(records acc K ∗ owes (c : Thread nD τ) (owed₀ c) W
        ∗ atPos ER (cell c none) 0 ∅ 0 ∗ dutyTok ER (cell (prv c) none) 0 () ∗ cred (tallyAt (cell c none) () 1)
        ∗ (bigSep Finset.univ fun s => someB (F := F) c s)
        ∗ at_ c cc0_stg0_0 x ∗ at_ c cc0_stg1_0 ix ∗ at_ c cc0_stg2_0 w ∗ at_ c cc0_stg3_0 o)
      ⊢ iprop((((∃ W, owes (c : Thread nD τ) (owed₁ c) W) ∗ semVal (cell c none) 0 ∗ (bigSep Finset.univ fun s => someB (F := F) (nxt c) s)
            ∗ at_ c cc0_stg0_0 x ∗ at_ c cc0_stg1_0 ix ∗ at_ c cc0_stg2_0 w ∗ at_ c cc0_stg3_0 (acc c))
          -∗ wp frame (wpE (defs₀ (F := F)) 𝒱₀ (c : Thread nD τ) none) Set.univ k Q)
        -∗ wp frame (wpE (defs₀ (F := F)) 𝒱₀ (c : Thread nD τ) none) Set.univ (prologue c k) Q) := by
  unfold prologue
  rw [dev1_eq]
  iintro ⟨#HR, HO, Hat, Ht, Hc, Hb, Hx, Hi, Hw, Ho⟩ Hk
  iapply (Rounds.wp_signal 𝒱₀ ER (Rd acc) (c : Thread nD τ) none (dst := (prv c : Thread nD τ)) (κ := K (prv c, none))
      (d := ()) (mem_duties acc (prv c) none) (amount_cell acc (prv c) none) () (O₀ := owed₀ c) (owed₁ c) rfl)
    $$ [HO Ht Hb]
  · isplitr; · iapply (records_inv acc K (prv c) none); iexact HR
    isplitl [HO]; · iexact HO
    isplitl [Ht]; · iexact Ht
    isplitl [Hb]
    · iapply (show (bigSep Finset.univ fun s => someB (F := F) c s) ⊢ (Rd acc).payload (cell (prv c) none) 0 () from
        Entails.of_eq (by rw [payload_cell]; show _ = barPay (prv c); unfold barPay; rw [nxt_prv]))
      iexact Hb
    iapply (records_reached acc K (prv c) none); iexact HR
  iintro HO
  iapply (Rounds.wp_wait_rest_token 𝒱₀ ER (Rd acc) (c : Thread nD τ) none (κ := K (c, none))
      (wpE_semWait_eq 𝒱₀ (c : Thread nD τ) none Set.univ) (Set.mem_univ _) () (O := owed₁ c) (W := W) (R := 0) (m := 0) (T := ∅)
      ((show 0 + (1#32).toNat = 1 from by decide).trans (expect_cell acc c none).symm)) $$ [Hc HO Hat]
  · isplitr; · iapply (records_inv acc K c none); iexact HR
    isplitl [Hc]; · iexact Hc
    isplitl [HO]; · iexact HO
    isplitr; · iapply (records_may acc K c (csem none) (owed₁ c) (mayWait_bar c)); iexact HR
    iexact Hat
  iintro ⟨HO, Hat, -, Hpay⟩
  ihave Hp := (Entails.of_eq (rest_cell acc c none)) $$ Hpay
  imod (Rounds.cell_close ER (Rd acc) (Set.mem_univ (K (c, none))) (fun h => h) (R := 0 + 1) (duties_later acc (cell c none))) $$ [Hat] with Hz
  · isplitr; · iapply (records_inv acc K c none); iexact HR
    iexact Hat
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM)
    (r := Rect.unit (s := S1024x1024) ![0, 0] S1024x1024.size inb_S1024x1024_S1024x1024_0_0) (Mk := Finset.univ) (Finset.subset_univ _)) $$ Ho; iintro Ho
  rw [write_o, read_x, read_i]
  iapply Hk
  rw [hacc]
  isplitl [HO]; · iexists _; iexact HO
  isplitl [Hz]; · iexact Hz
  isplitl [Hp]; · iapply (show pay acc c none ⊢ (bigSep Finset.univ fun s => someB (F := F) (nxt c) s) from .rfl); iexact Hp
  isplitl [Hx]; · iexact Hx
  isplitl [Hi]; · iexact Hi
  isplitl [Hw]; · iexact Hw
  iexact Ho

/-! ## The start of the reduce-scatter and the end of the all-gather -/

theorem rs_start (c : Dev nD) :
    iprop((∃ W, owes (c : Thread nD τ) (owed₁ c) W) ∗ owns (c : Thread nD τ) oM fullShare (acc c)
        ∗ (bigSep Finset.univ fun s => someB (F := F) (nxt c) s) ∗ bigSep Finset.univ (rsGhost (F := F) c))
      ⊢ rsAt acc c 0 := by
  unfold rsAt
  rw [stepsFrom_zero, stepsTo_zero, bigSep_empty]
  unfold perms
  rw [Finset.range_zero, bigSep_empty]
  iintro ⟨HO, Ho, Hb, Hg⟩
  ihave Ho' := (out_start acc c) $$ Ho
  icases Ho' with ⟨H0, Hr⟩
  isplitl [HO]; · iexact HO
  isplitl [H0]; · iexact H0
  isplitr; · iempintro
  isplitl
  · unfold rsTodo
    simp only [bigSep_sep']
    unfold rsGhost
    simp only [bigSep_sep']
    isplitl [Hr]; · iexact Hr
    isplitl [Hb]; · iexact Hb
    iexact Hg
  iempintro

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem ag_end (c : Dev nD) :
    iprop(agAt acc c 15 ∗ bigSep Finset.univ (rsDone (F := F) c) ∗ semVal (cell c none) 0)
      ⊢ iprop((∃ W, owes (c : Thread nD τ) 0 W) ∗ closed (F := F) c ∗ (bigSep Finset.univ fun s => someB (F := F) c s)
        ∗ owns (c : Thread nD τ) oM fullShare (total acc)) := by
  unfold agAt
  rw [stepsFrom_end, stepsTo_end, agOwed_end, bigSep_empty]
  unfold agDone rsDone closed
  rw [bigSep_univ_prod, bigSep_four]
  simp only [bigSep_sep']
  iintro ⟨⟨HO, Hc, -, -, ⟨Hcs, H2, H3⟩⟩, ⟨Hb, H0, H1⟩, Hz⟩
  isplitl [HO]; · iexact HO
  isplitl [Hz H0 H1 H2 H3]
  · isplitl [Hz]; · iexact Hz
    isplitl [H0]; · iexact H0
    isplitl [H1]; · iexact H1
    isplitl [H2]; · iexact H2
    iexact H3
  isplitl [Hb]; · iexact Hb
  iapply (out_end acc c)
  isplitl [Hc]; · iexact Hc
  iexact Hcs

/-! ## The body -/

theorem wp_body (c : Dev nD) (x : (cc0_stg0_0 : Ref sig .tc).ty.Contents (Elt F)) (ix : (cc0_stg1_0 : Ref sig .tc).ty.Contents (Elt F))
    (w : (cc0_stg2_0 : Ref sig .tc).ty.Contents (Elt F)) (o : (cc0_stg3_0 : Ref sig .tc).ty.Contents (Elt F))
    (hacc : acc c = contrib c x ix (wBlk w)) (W : Waits sig Unit) (Q : PUnit → sProp 𝕄) :
    iprop(records acc K ∗ owes (c : Thread nD τ) (owed₀ c) W ∗ ghost (F := F) c ∗ (bigSep Finset.univ fun s => someB (F := F) c s)
        ∗ at_ c cc0_stg0_0 x ∗ at_ c cc0_stg1_0 ix ∗ at_ c cc0_stg2_0 w ∗ at_ c cc0_stg3_0 o)
      ⊢ iprop((((∃ W, owes (c : Thread nD τ) 0 W) ∗ closed (F := F) c ∗ (bigSep Finset.univ fun s => someB (F := F) c s)
            ∗ at_ c cc0_stg0_0 x ∗ at_ c cc0_stg1_0 ix ∗ at_ c cc0_stg2_0 w ∗ owns (c : Thread nD τ) oM fullShare (total acc))
          -∗ Q ⟨⟩)
        -∗ wp frame (wpE (defs₀ (F := F)) 𝒱₀ (c : Thread nD τ) none) Set.univ (bodyOf c) Q) := by
  unfold bodyOf ghost
  iintro ⟨#HR, HO, ⟨Hat, Ht, Hc, Hrs, Hag⟩, Hb, Hx, Hi, Hw, Ho⟩ Hk
  iapply (wp_prologue acc K c x ix w o hacc W) $$ [HO Hat Ht Hc Hb Hx Hi Hw Ho]
  · isplitr; · iexact HR
    isplitl [HO]; · iexact HO
    isplitl [Hat]; · iexact Hat
    isplitl [Ht]; · iexact Ht
    isplitl [Hc]; · iexact Hc
    isplitl [Hb]; · iexact Hb
    isplitl [Hx]; · iexact Hx
    isplitl [Hi]; · iexact Hi
    isplitl [Hw]; · iexact Hw
    iexact Ho
  iintro ⟨HO, Hz, Hb, Hx, Hi, Hw, Ho⟩
  iapply (rs_phase acc K c)
  isplitr; · iexact HR
  isplitl [HO Hb Ho Hrs]
  · iapply (rs_start acc c)
    isplitl [HO]; · iexact HO
    isplitl [Ho]
    · rw [owns_whole_eq]
      iexists _
      isplitr; · (ipureintro; rfl)
      iexact Ho
    isplitl [Hb]; · iexact Hb
    iexact Hrs
  iintro Hend
  ihave Hmid := (rs_to_ag acc c) $$ [Hend Hag]
  · isplitl [Hend]; · iexact Hend
    iexact Hag
  icases Hmid with ⟨Hst, Hdone⟩
  iapply (ag_phase acc K c)
  isplitr; · iexact HR
  isplitl [Hst]; · iexact Hst
  iintro Hst
  ihave Hfin := (ag_end acc c) $$ [Hst Hdone Hz]
  · isplitl [Hst]; · iexact Hst
    isplitl [Hdone]; · iexact Hdone
    iexact Hz
  icases Hfin with ⟨HO, Hcl, Hb, Ho⟩
  rw [wp_ret]; imodintro
  iapply Hk
  isplitl [HO]; · iexact HO
  isplitl [Hcl]; · iexact Hcl
  isplitl [Hb]; · iexact Hb
  isplitl [Hx]; · iexact Hx
  isplitl [Hi]; · iexact Hi
  isplitl [Hw]; · iexact Hw
  iexact Ho

end Cert.KernelIdealProof

end
-- ==== Proof.KernelIdeal.Ghost.lean ====
/-
The launch of the protocol: the ghost state of every cell is minted, every cell's invariant is set up, and each device is dealt
the positions of its own cells, the tokens of the duties it pays, and the credits of what its neighbours will pay.
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (acc : Dev nD → Full F)

/-! ## All cells -/

abbrev kcell (p : Dev nD × Key) : GSem nD τ sig := cell p.1 p.2

theorem kcell_inj : Function.Injective kcell := by
  rintro ⟨c, k⟩ ⟨c', k'⟩ h
  have h1 : c = c' := congrArg (fun g : GSem nD τ sig => g.1.1) h
  subst h1
  exact congrArg (Prod.mk c) (csem_inj (congrArg Prod.snd h))

theorem cell_eq_iff {c c' : Dev nD} {k k' : Key} : cell c k = cell c' k' ↔ c = c' ∧ k = k' :=
  ⟨fun h => Prod.mk.inj (kcell_inj (a₁ := (c, k)) (a₂ := (c', k')) h), fun ⟨h, h'⟩ => by rw [h, h']⟩

def ringCells : Finset (GSem nD τ sig) := Finset.univ.map ⟨kcell, kcell_inj⟩

def ringToks : Finset (GSem nD τ sig × ℕ × Unit) :=
  Finset.univ.map ⟨fun p : Dev nD × Key => (kcell p, 0, ()), fun a b h => kcell_inj (congrArg Prod.fst h)⟩

/-- A device's keys one family at a time. -/
theorem bigSep_key (Φ : Key → sProp 𝕄) :
    bigSep Finset.univ Φ = iprop(Φ none ∗ (bigSep Finset.univ fun t => Φ (some (0, t))) ∗ (bigSep Finset.univ fun t => Φ (some (1, t)))
      ∗ (bigSep Finset.univ fun t => Φ (some (2, t))) ∗ bigSep Finset.univ fun t => Φ (some (3, t))) := by
  rw [show (Finset.univ : Finset Key) = insert none (Finset.univ.map ⟨some, Option.some_injective _⟩) from by decide,
    bigSep_insert (by decide), bigSep_map, bigSep_univ_prod, bigSep_four]
  rfl

/-! ## The ghost state dealt -/

/-- What the launch element deals device `c`. -/
def minted (c : Dev nD) : sProp 𝕄 :=
  iprop((bigSep Finset.univ fun k : Key => roundState ER (Rd acc) (cell c k) 0) ∗ (bigSep Finset.univ fun k : Key => atPos ER (cell c k) 0 ∅ 0)
    ∗ (bigSep Finset.univ fun k : Key => reached ER (cell c k) 0) ∗ bigSep Finset.univ fun k : Key => dutyTok ER (cell c k) 0 ())

theorem fund_ring : BI.own (ER (initOf ringCells ringToks)) ⊢ (|==> bigSep Finset.univ (minted acc) : sProp 𝕄) := by
  have hX (Φ : GSem nD τ sig → sProp 𝕄) : bigSep ringCells Φ = bigSep Finset.univ fun c : Dev nD => bigSep Finset.univ fun k : Key => Φ (cell c k) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Key => dutyTok ER (cell c k) 0 () := by
    unfold ringToks; rw [bigSep_map, bigSep_univ_prod]; rfl
  iintro HX
  imod (Rounds.fund ER (Rd acc) ringCells ringToks) $$ HX with ⟨Hst, Hr, Hat, Htok⟩
  imodintro
  ihave Hst' := (Entails.of_eq (hX fun g => roundState ER (Rd acc) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat']; · iexact Hat'
  isplitl [Hr']; · iexact Hr'
  iexact Htok'

/-- Every cell's invariant, and that it has reached its round. -/
def shared (K : Dev nD × Key → ℕ) : sProp 𝕄 :=
  iprop((bigSep Finset.univ fun p : Dev nD × Key => cellInv ER (Rd acc) (K p) (cell p.1 p.2))
    ∗ bigSep Finset.univ fun p : Dev nD × Key => reached ER (cell p.1 p.2) 0)

instance shared_persistent (K : Dev nD × Key → ℕ) : BI.Persistent (shared acc K) := by unfold shared; infer_instance

/-- The tokens of the duties that device `c` pays. -/
def pays (c : Dev nD) : sProp 𝕄 :=
  iprop(dutyTok ER (cell (prv c) none) 0 () ∗ (bigSep Finset.univ fun t => dutyTok ER (cell c (some (0, t))) 0 ())
    ∗ (bigSep Finset.univ fun t => dutyTok ER (cell (nxt c) (some (1, t))) 0 ()) ∗ (bigSep Finset.univ fun t => dutyTok ER (cell c (some (2, t))) 0 ())
    ∗ bigSep Finset.univ fun t => dutyTok ER (cell (nxt c) (some (3, t))) 0 ())

/-- What stays with device `c`: the positions of its cells and those tokens. -/
def kept (c : Dev nD) : sProp 𝕄 := iprop((bigSep Finset.univ fun k : Key => atPos ER (cell c k) 0 ∅ 0) ∗ pays (F := F) c)

def dealt (c : Dev nD) : sProp 𝕄 := iprop(∃ K, shared acc K ∗ kept (F := F) c)

theorem dealt_intro (K : Dev nD × Key → ℕ) (c : Dev nD) : iprop(shared acc K ∗ kept (F := F) c) ⊢ dealt acc c := by
  unfold dealt
  iintro H
  iexists K
  iexact H

/-- Each token goes to the device that pays its duty. -/
theorem toks_around :
    (bigSep Finset.univ fun c : Dev nD => bigSep Finset.univ fun k : Key => (dutyTok ER (cell c k) 0 () : sProp 𝕄)) ⊢ bigSep Finset.univ (pays (F := F)) := by
  unfold pays
  rw [bigSep_congr (s := Finset.univ) (fun (c : Dev nD) _ => bigSep_key fun k : Key => (dutyTok ER (cell c k) 0 () : sProp 𝕄))]
  simp only [bigSep_sep']
  rw [bigSep_univ_equiv ring.symm (fun c : Dev nD => (dutyTok ER (cell c none) 0 () : sProp 𝕄)),
    bigSep_univ_equiv ring (fun c : Dev nD => bigSep Finset.univ fun t => (dutyTok ER (cell c (some (1, t))) 0 () : sProp 𝕄)),
    bigSep_univ_equiv ring (fun c : Dev nD => bigSep Finset.univ fun t => (dutyTok ER (cell c (some (3, t))) 0 () : sProp 𝕄))]
  exact .rfl

theorem unscopedSems0_bar (c : Dev nD) : (unscopedSems0 c : sProp 𝕄) = semVal (cell c none) 0 := by
  unfold unscopedSems0; rw [bigSep_eq_bigSepL_of_eq [SemLoc.reg barS] (by decide) (by decide)]; rfl

/-- A device's semaphores at zero, however they are listed. -/
theorem sems_closed (c : Dev nD) :
    iprop(Pipeline.ownSems0 (Ix := Unit) (Name := ℕ) (U := UU) (Lvl := ℕ) (Val := Elt F) (τ := τ) osem c ∗ unscopedSems0 c) ⊢ closed (F := F) c := by
  rw [unscopedSems0_bar]; unfold closed; exact sep_symm

theorem closed_sems (c : Dev nD) :
    closed (F := F) c ⊢ iprop(unscopedSems0 c ∗ Pipeline.ownSems0 (Ix := Unit) (Name := ℕ) (U := UU) (Lvl := ℕ) (Val := Elt F) (τ := τ) osem c) := by
  rw [unscopedSems0_bar]; exact .rfl

theorem closed_keys (c : Dev nD) : closed (F := F) c ⊢ bigSep Finset.univ fun k : Key => semVal (cell c k) 0 :=
  Entails.of_eq (by unfold closed; rw [bigSep_key, bigSep_univ_prod, bigSep_four])

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ minted acc c)
      ⊢ |={Set.univ}=> iprop((bigSep Finset.univ fun k => iprop(∃ κ : ℕ, cellInv ER (Rd acc) κ (cell c k)))
          ∗ (bigSep Finset.univ fun k : Key => atPos ER (cell c k) 0 ∅ 0)
          ∗ (bigSep Finset.univ fun k : Key => reached ER (cell c k) 0) ∗ bigSep Finset.univ fun k : Key => dutyTok ER (cell c k) 0 ()) := by
  unfold minted
  iintro ⟨Hos, Hus, Hst, Hrest⟩
  ihave Hv := ((sems_closed (F := F) c).trans (closed_keys c)) $$ [Hos Hus]
  · isplitl [Hos] <;> iassumption
  imod (show iprop((bigSep Finset.univ fun k : Key => semVal (cell c k) 0) ∗ bigSep Finset.univ fun k : Key => roundState ER (Rd acc) (cell c k) 0)
      ⊢ (|={Set.univ}=> bigSep Finset.univ fun k => iprop(∃ κ : ℕ, cellInv ER (Rd acc) κ (cell c k)) : sProp 𝕄) from by
        rw [← bigSep_sep']
        exact (bigSep_mono fun k _ => (Rounds.body_intro ER (Rd acc) (cell c k)).trans inv_alloc).trans (bigSep_fupd _ _)) $$ [Hv Hst] with Hinv
  · isplitl [Hv] <;> iassumption
  imodintro
  isplitl [Hinv]; · iexact Hinv
  iexact Hrest

theorem regroup :
    (bigSep Finset.univ fun c : Dev nD => iprop((bigSep Finset.univ fun k => iprop(∃ κ : ℕ, cellInv ER (Rd acc) κ (cell c k)))
          ∗ (bigSep Finset.univ fun k : Key => atPos ER (cell c k) 0 ∅ 0)
          ∗ (bigSep Finset.univ fun k : Key => reached ER (cell c k) 0) ∗ bigSep Finset.univ fun k : Key => dutyTok ER (cell c k) 0 ()) : sProp 𝕄)
      ⊢ bigSep Finset.univ (dealt acc) := by
  rw [bigSep_sep', bigSep_sep', bigSep_sep', ← bigSep_univ_prod (fun p : Dev nD × Key => iprop(∃ κ : ℕ, cellInv ER (Rd acc) κ (cell p.1 p.2))),
    ← bigSep_univ_prod (fun p : Dev nD × Key => (reached ER (cell p.1 p.2) 0 : sProp 𝕄))]
  iintro ⟨HI, Hat, #HR, Htok⟩
  ihave HK := (BI.bigSep_exists_pi Finset.univ (fun (p : Dev nD × Key) (κ : ℕ) => (cellInv ER (Rd acc) κ (cell p.1 p.2) : sProp 𝕄))) $$ HI
  icases HK with ⟨%K, #HI⟩
  ihave Htk := (toks_around (F := F)) $$ Htok
  ihave Hk := (Entails.of_eq (show iprop((bigSep Finset.univ fun c : Dev nD => bigSep Finset.univ fun k : Key => atPos ER (cell c k) 0 ∅ 0)
      ∗ bigSep Finset.univ (pays (F := F))) = bigSep Finset.univ (kept (F := F)) from by unfold kept; rw [bigSep_sep'])) $$ [Hat Htk]
  · isplitl [Hat] <;> iassumption
  iapply ((sep_mono_left (BI.bigSep_of_persistent Finset.univ (shared acc K))).trans (show
      iprop((bigSep Finset.univ fun _ : Dev nD => shared acc K) ∗ bigSep Finset.univ (kept (F := F))) ⊢ bigSep Finset.univ (dealt acc) from by
    rw [← bigSep_sep']
    exact bigSep_mono fun c _ => dealt_intro acc K c))
  isplitr
  · unfold shared
    isplitl; · iexact HI
    iexact HR
  iexact Hk

/-- All devices' cells at once. -/
theorem glob :
    (bigSep Finset.univ fun c => iprop(Pipeline.ownSems0 (Ix := Unit) (Name := ℕ) (U := UU) (Lvl := ℕ) (Val := Elt F) (τ := τ) osem c ∗ unscopedSems0 c
        ∗ minted acc c) : sProp 𝕄) ⊢ |={Set.univ}=> bigSep Finset.univ (dealt acc) :=
  ((bigSep_mono fun c _ => core_alloc acc c).trans (bigSep_fupd _ _)).trans (BI.fupd_mono (regroup acc))

/-! ## The credits at launch -/

theorem tally_cell (d c : Dev nD) (k k' : Key) (n : ℕ) :
    (tallyAt (cell d k) () n : CellTallies nD τ sig Unit) (cell c k') () = if d = c ∧ k = k' then n else 0 := by
  rw [tallyAt_apply]
  refine if_congr ⟨fun h => ?_, fun h => ⟨(cell_eq_iff.mpr h).symm, rfl⟩⟩ rfl rfl
  exact cell_eq_iff.mp h.1.symm

theorem sum_tally (S : Finset (Fin 15)) (f : Fin 15 → GSem nD τ sig) (n : ℕ) (g : GSem nD τ sig) :
    (∑ t ∈ S, tallyAt (f t) () n : CellTallies nD τ sig Unit) g () = ∑ t ∈ S, (tallyAt (f t) () n : CellTallies nD τ sig Unit) g () := by
  classical
  induction S using Finset.induction_on with
  | empty => rfl
  | insert t S ht ih => rw [Finset.sum_insert ht, Finset.sum_insert ht, Pi.add_apply, Finsupp.add_apply, ih]

theorem owed₀_at (d c : Dev nD) (k : Key) :
    owed₀ d (cell c k) () = (∑ t : Fin 15, if nxt d = c ∧ some (3, t) = k then N else 0) + (∑ t : Fin 15, if nxt d = c ∧ some (1, t) = k then N else 0)
      + if prv d = c ∧ none = k then 1 else 0 := by
  unfold owed₀ owed₁ agOwed rsOwed
  rw [Pi.add_apply, Finsupp.add_apply, Pi.add_apply, Finsupp.add_apply, sum_tally, sum_tally, tally_cell, stepsFrom_zero]
  rw [Finset.sum_congr rfl fun (t : Fin 15) _ => tally_cell (nxt d) c (some (3, t)) k N,
    Finset.sum_congr rfl fun (t : Fin 15) _ => tally_cell (nxt d) c (some (1, t)) k N]

theorem launch_key (c : Dev nD) (k : Key) (n : ℕ) (h : ∑ d, owed₀ d (cell c k) () = n) :
    tallyOn (cell c k) (launchCredit (Pipeline.owing owed₀) 0 (cell c k)) = (tallyAt (cell c k) () n : CellTallies nD τ sig Unit) := by
  unfold tallyAt; refine congrArg _ (Finsupp.ext fun u => ?_); cases u
  rw [Pipeline.launchCredit_owing, Finsupp.single_eq_same, h]

theorem owed_bar (c : Dev nD) : ∑ d, owed₀ d (cell c none) () = 1 := by
  rw [Finset.sum_eq_single (nxt c)]
  · rw [owed₀_at]; simp [prv_nxt]
  · intro d _ hd
    rw [owed₀_at]
    have : prv d ≠ c := fun h => hd (by rw [← h, nxt_prv])
    simp [this]
  · exact fun h => absurd (Finset.mem_univ _) h

theorem owed_recv (c : Dev nD) (q : Fin 4) (hq : q = 1 ∨ q = 3) (t : Fin 15) : ∑ d, owed₀ d (cell c (some (q, t))) () = N := by
  rw [Finset.sum_eq_single (prv c)]
  · rw [owed₀_at]
    rcases hq with rfl | rfl <;> simp [nxt_prv, Prod.ext_iff]
  · intro d _ hd
    rw [owed₀_at]
    have : nxt d ≠ c := fun h => hd (by rw [← h, prv_nxt])
    simp [this]
  · exact fun h => absurd (Finset.mem_univ _) h

/-- The credits that device `c` starts with: its barrier's unit and its receive cells' landings. -/
theorem creds (c : Dev nD) :
    (Pipeline.launchCred owed₀ c : sProp 𝕄) ⊢ iprop(cred (tallyAt (cell c none) () 1) ∗ (bigSep Finset.univ fun t => cred (tallyAt (cell c (some (1, t))) () N))
      ∗ bigSep Finset.univ fun t => cred (tallyAt (cell c (some (3, t))) () N)) := by
  unfold Pipeline.launchCred
  have hk : (bigSep Finset.univ fun sm : SemLoc sig => (cred (tallyOn ((c : Thread nD τ), sm) (launchCredit (Pipeline.owing owed₀) 0 ((c : Thread nD τ), sm))) : sProp 𝕄))
      ⊢ bigSep Finset.univ fun k : Key => cred (tallyOn (cell c k) (launchCredit (Pipeline.owing owed₀) 0 (cell c k))) := by
    have e := bigSep_map (s := (Finset.univ : Finset Key)) ⟨csem, csem_inj⟩
      (Φ := fun sm : SemLoc sig => (cred (tallyOn ((c : Thread nD τ), sm) (launchCredit (Pipeline.owing owed₀) 0 ((c : Thread nD τ), sm))) : sProp 𝕄))
    exact (bigSep_subset (Finset.subset_univ _)).trans (Entails.of_eq e)
  rw [bigSep_key] at hk
  have h1 (t : Fin 15) := launch_key c (some (1, t)) N (owed_recv c 1 (.inl rfl) t)
  have h3 (t : Fin 15) := launch_key c (some (3, t)) N (owed_recv c 3 (.inr rfl) t)
  have h0 := launch_key c none 1 (owed_bar c)
  simp only [h0, h1, h3] at hk
  iintro H
  ihave H' := hk $$ H
  icases H' with ⟨H0, -, H1, -, H3⟩
  isplitl [H0]; · iexact H0
  isplitl [H1]; · iexact H1
  iexact H3

/-- What a device was dealt, with its credits, is the ghost state its body starts from. -/
theorem ghost_intro (c : Dev nD) :
    iprop(kept (F := F) c ∗ cred (tallyAt (cell c none) () 1) ∗ (bigSep Finset.univ fun t => cred (tallyAt (cell c (some (1, t))) () N))
      ∗ bigSep Finset.univ fun t => cred (tallyAt (cell c (some (3, t))) () N)) ⊢ ghost (F := F) c := by
  unfold kept pays ghost rsGhost agTodo
  rw [bigSep_key]
  simp only [bigSep_sep']
  iintro ⟨⟨⟨A, A0, A1, A2, A3⟩, T, T0, T1, T2, T3⟩, C, C1, C3⟩
  isplitl [A]; · iexact A
  isplitl [T]; · iexact T
  isplitl [C]; · iexact C
  isplitl [A0 A1 T0 T1 C1]
  · isplitl [T0]; · iexact T0
    isplitl [T1]; · iexact T1
    isplitl [A0]; · iexact A0
    isplitl [A1]; · iexact A1
    iexact C1
  isplitl [T2]; · iexact T2
  isplitl [T3]; · iexact T3
  isplitl [A2]; · iexact A2
  isplitl [A3]; · iexact A3
  iexact C3

end Cert.KernelIdealProof

end
-- ==== Proof.KernelIdeal.Run.lean ====
/-
The run: on every device `main` is the one kernel; from any memory with all counters at zero every execution ends with each
device's result holding `total` of the devices' contributions, the arguments unchanged and every counter at zero.
-/
module

public import proofs.«01_k».proof.Proof.KernelIdeal.Ghost
public import proofs.«01_k».proof.Proof.Gen.KernelIdeal.Points
public import Idealize.ShloMosaic.Lib.Pipeline.CollectiveSegs
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the windows hold -/

/-- The arguments as the device's windows stage them. -/
def xstg (c : Dev nD) : (cc0_stg0_0 : Ref sig .tc).ty.Contents (Elt F) := (win0_0.blk (0 : Fin 1)).view.read (Elt F) (m ((c : Thread nD τ).loc main_arg0))
def istg (c : Dev nD) : (cc0_stg1_0 : Ref sig .tc).ty.Contents (Elt F) := (win0_1.blk (0 : Fin 1)).view.read (Elt F) (m ((c : Thread nD τ).loc main_arg2))
def wstg (c : Dev nD) : (cc0_stg2_0 : Ref sig .tc).ty.Contents (Elt F) := (win0_2.blk (0 : Fin 1)).view.read (Elt F) (m ((c : Thread nD τ).loc main_arg3))

/-- Each device's contribution. -/
def accOf (c : Dev nD) : Full F := contrib c (xstg m c) (istg m c) (wBlk (wstg m c))

/-- What a device's body starts from, beside its windows. -/
def start (c : Dev nD) : sProp 𝕄 := iprop(∃ K, records (accOf m) K ∗ ghost (F := F) c)

def Φ₀ (c : Dev nD) : sProp 𝕄 := iprop(start m c ∗ bigSep Finset.univ fun s => someB (F := F) c s)
def Φ₁ (c : Dev nD) : sProp 𝕄 := iprop(closed (F := F) c ∗ bigSep Finset.univ fun s => someB (F := F) c s)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => istg m c
    | ⟨2, _⟩ => wstg m c
    | ⟨3, _⟩ => total (accOf m)
  Φ t := match t with
    | ⟨0, _⟩ => Φ₀ m c
    | ⟨_ + 1, _⟩ => Φ₁ c
  q _ := fullShare
  owed t := match t with
    | ⟨0, _⟩ => owed₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-! ## The body -/

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_at (c : Dev nD) (b : Ref sig .tc) (X : b.ty.Contents (Elt F)) : stg c b X ⊢ at_ c b X := by
  iintro ⟨%f, %h, H⟩
  subst h
  iexact H
theorem at_stg (c : Dev nD) (b : Ref sig .tc) (X : b.ty.Contents (Elt F)) : at_ c b X ⊢ stg c b X := by
  iintro H
  iexists X
  isplitr; · (ipureintro; rfl)
  iexact H

theorem before_x (c : Dev nD) (d) : (dats m 0 c).before (0 : Fin 4) t0_0 d = xstg m c := by
  unfold Dat.before; rw [if_pos (fetch0_0 t0_0)]; rfl
theorem before_i (c : Dev nD) (d) : (dats m 0 c).before (1 : Fin 4) t0_0 d = istg m c := by
  unfold Dat.before; rw [if_pos (fetch0_1 t0_0)]; rfl
theorem before_w (c : Dev nD) (d) : (dats m 0 c).before (2 : Fin 4) t0_0 d = wstg m c := by
  unfold Dat.before; rw [if_pos (fetch0_2 t0_0)]; rfl

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))

def bodyPost (c : Dev nD) : sProp 𝕄 :=
  iprop(Φ₁ c ∗ (dats m 0 c).owesAt () t0_0.succ ∗ stg c cc0_stg0_0 (xstg m c) ∗ stg c cc0_stg1_0 (istg m c) ∗ stg c cc0_stg2_0 (wstg m c)
    ∗ stg c cc0_stg3_0 (total (accOf m)))

theorem body_run (c : Dev nD) :
    bodyPre m c ⊢ wp frame (wpE (defs₀ (F := F)) 𝒱₀ (c : Thread nD τ) none) Set.univ (bodyOf c) (fun _ => bodyPost m c) := by
  unfold bodyPre Φ₀ start Dat.owesAt Pipeline.owesWithin
  iintro ⟨⟨⟨%K, #HR, Hg⟩, Hb⟩, ⟨%W, -, HO⟩, ⟨%dx, Hx⟩, ⟨%di, Hi⟩, ⟨%dw, Hw⟩, ⟨%d3, Ho⟩⟩
  rw [before_x, before_i, before_w]
  ihave Hx' := (stg_at c cc0_stg0_0 (xstg m c)) $$ Hx
  ihave Hi' := (stg_at c cc0_stg1_0 (istg m c)) $$ Hi
  ihave Hw' := (stg_at c cc0_stg2_0 (wstg m c)) $$ Hw
  ihave Ho' := (stg_at c cc0_stg3_0 _) $$ Ho
  iapply (wp_body (accOf m) K c (xstg m c) (istg m c) (wstg m c) _ rfl W (fun _ => bodyPost m c)) $$ [HO Hg Hb Hx' Hi' Hw' Ho']
  · isplitr; · iexact HR
    isplitl [HO]; · iexact HO
    isplitl [Hg]; · iexact Hg
    isplitl [Hb]; · iexact Hb
    isplitl [Hx']; · iexact Hx'
    isplitl [Hi']; · iexact Hi'
    isplitl [Hw']; · iexact Hw'
    iexact Ho'
  iintro ⟨⟨%W', HO⟩, Hcl, Hb, Hx, Hi, Hw, Ho⟩
  unfold bodyPost Φ₁ Dat.owesAt Pipeline.owesWithin
  rw [show (dats m 0 c).owed t0_0.succ = 0 from rfl]
  isplitl [Hcl Hb]
  · isplitl [Hcl]; · iexact Hcl
    iexact Hb
  isplitl [HO]
  · iexists W'
    isplitr; · ipureintro; exact fun _ _ => Or.inl trivial
    iexact HO
  isplitl [Hx]; · iapply (at_stg c cc0_stg0_0 (xstg m c)); iexact Hx
  isplitl [Hi]; · iapply (at_stg c cc0_stg1_0 (istg m c)); iexact Hi
  isplitl [Hw]; · iapply (at_stg c cc0_stg2_0 (wstg m c)); iexact Hw
  iapply (Entails.of_eq (owns_whole_eq c cc0_stg3_0 (total (accOf m)))); iexact Ho

set_option maxRecDepth 100000 in
theorem body_obligation (c : Dev nD) : BodyObligation (dats m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ (c : Thread nD τ) none) Set.univ
    (cc0_body xM (Memref.isWhole_whole _) iM (Memref.isWhole_whole _) wM (Memref.isWhole_whole _) oM (Memref.isWhole_whole _)
      bM (Memref.isWhole_whole _) cc0_scratch1 cc0_scratch2 cc0_scratch3 cc0_scratch4) (fun _ => bodyPost m c)
  rw [body_eq, wp_deviceId]
  exact body_run m c

/-! ## The launch -/

theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf ringCells ringToks)

/-- The argument that no window stages. -/
def rest (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt (accOf m) c)
      ⊢ |={Set.univ}=> iprop(start m c ∗ rest m c) := by
  rw [Pipeline.unscopedRestP_none, unscopedRest0_eq]
  iintro ⟨Hr, Hlev, Hcr, -, HG⟩
  ihave Hc := (creds (F := F) c) $$ Hcr
  unfold dealt shared
  icases HG with ⟨%K, ⟨#HI, #HR⟩, Hk⟩
  ihave Hg := (ghost_intro (F := F) c) $$ [Hk Hc]
  · isplitl [Hk]; · iexact Hk
    iexact Hc
  imodintro
  unfold start rest records
  isplitr [Hr]
  · iexists K
    isplitl [Hlev]
    · isplitr; · iexact HI
      isplitr; · iexact HR
      iexact Hlev
    iexact Hg
  iexact Hr

/-- The scratch buffer at some contents is its slots at some contents. -/
theorem scr_slots (c : Dev nD) :
    iprop(∃ f : Buf (Elt F) ((c : Thread nD τ).loc cc0_scratch0), ((c : Thread nD τ).loc cc0_scratch0) ↦{fullShare} f)
      ⊢ (bigSep Finset.univ fun s => someB (F := F) c s : sProp 𝕄) := by
  iintro ⟨%f, H⟩
  iapply (scratch_slots (F := F) c)
  unfold ownsSat
  iexists f
  isplitr; · (ipureintro; trivial)
  simp only [Memref.view_whole, View.set_whole]
  iexact H
theorem slots_scr (c : Dev nD) :
    (bigSep Finset.univ fun s => someB (F := F) c s : sProp 𝕄)
      ⊢ iprop(∃ f : Buf (Elt F) ((c : Thread nD τ).loc cc0_scratch0), ((c : Thread nD τ).loc cc0_scratch0) ↦{fullShare} f) := by
  refine (slots_scratch c).trans ?_
  unfold ownsSat
  simp only [Memref.view_whole, View.set_whole]
  iintro ⟨%f, -, H⟩
  iexists f
  iexact H

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iapply (scr_slots (F := F) c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  iintro ⟨Hc, Hb⟩
  ihave Hs := (closed_sems (F := F) c) $$ Hc
  icases Hs with ⟨Hu, Ho⟩
  isplitl [Hu]; · iexact Hu
  isplitl [Ho]; · iexact Ho
  iapply (slots_scr (F := F) c); iexact Hb

theorem waits (c : Dev nD) : (levAts L lv : sProp 𝕄) ⊢ Pipeline.cellsWaits cfgs (dats m) () 0 c :=
  Pipeline.cellsWaits_intro cfgs (dats m) () 0 c fun w s t =>
    mayWait_other c _ (by fin_cases w <;> fin_cases s <;> decide) _ (by
      rcases t with ⟨_ | _, ht⟩
      · exact Or.inl rfl
      · exact Or.inr rfl)

theorem rest_read (c : Dev nD) (s' : Phys nD τ sig (Elt F)) :
    iprop(rest m c ∗ SI s') ⊢ (<pers> ⌜s'.mem.mem ((c : Thread nD τ).loc main_arg1) = m ((c : Thread nD τ).loc main_arg1)⌝ : sProp 𝕄) := by
  refine BIBase.Entails.trans (Q := iprop(⌜s'.mem.mem ((c : Thread nD τ).loc main_arg1) = m ((c : Thread nD τ).loc main_arg1)⌝)) ?_ Laws.persistently_pure.2
  unfold rest
  iintro ⟨Hr, HSI⟩
  ihave H := (SI_pointsTo_agree (st := s') (ℓ := (c : Thread nD τ).loc main_arg1) (I := Finset.univ) (q := fullShare) (f := m ((c : Thread nD τ).loc main_arg1))) $$ [HSI Hr]
  · isplitl [HSI] <;> iassumption
  icases H with %hx
  ipureintro
  exact funext fun i => hx i (Finset.mem_univ i)

/-- At the end the unscoped counters read zero and the unstaged argument reads as before. -/
theorem read_end (c : Dev nD) (s' : Phys nD τ sig (Elt F)) :
    iprop(unscopedSems0 c ∗ rest m c ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ (SI s' : sProp 𝕄)) := by
  unfold rest
  iintro ⟨Hu, Hr, HSI⟩
  ihave %hr := (rest_read m c s') $$ [HSI Hr]
  · unfold rest
    isplitl [Hr] <;> iassumption
  imod (Pipeline.unscopedSems0_read (X := unscopedSems0 c) (c := c) fupd_intro s') $$ [Hu HSI] with ⟨%hs, HSI⟩
  · isplitl [Hu] <;> iassumption
  imodintro
  isplitr; · (ipureintro; exact ⟨hs, hr⟩)
  iexact HSI

/-! ## The run -/

def finalA (c : Dev nD) (w : Fin cfg0.W) : Buf (Elt F) ((cfg0.win w).arr.view.loc (c : Thread nD τ)) := (dats m 0 c).arrAt w cfg0.N

set_option maxRecDepth 100000 in
theorem run_arrays : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := minted (accOf m)) (G' := dealt (accOf m)) (u₀ := u₀)
    (hu₀ := by
      unfold u₀
      iintro Hu
      ihave H := (ownU_pair _ _) $$ Hu
      icases H with ⟨HP, HX⟩
      imod (fund_ring (accOf m)) $$ HX with HG
      imodintro
      isplitl [HP] <;> iassumption)
    (hglob := glob (accOf m))
    (hA := fun _ _ => rfl) (hpf := fun _ k => k.elim0)
    (X := start m) (Y := fun c => unscopedSems0 c) (Z := rest m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => read_end m c s')
    (hQ := fun _ h hs => ⟨fun c => ⟨fun w => (h c).1 w, (h c).2.2.2⟩, sem_eq_zero hs fun c => (h c).2.2.1⟩)

/-! ## The arrays after the run -/

theorem final_x (c : Dev nD) : finalA m c (0 : Fin 4) = m ((c : Thread nD τ).loc main_arg0) := (dats m 0 c).arrAt_in (0 : Fin 4) rfl _
theorem final_i (c : Dev nD) : finalA m c (1 : Fin 4) = m ((c : Thread nD τ).loc main_arg2) := (dats m 0 c).arrAt_in (1 : Fin 4) rfl _
theorem final_w (c : Dev nD) : finalA m c (2 : Fin 4) = m ((c : Thread nD τ).loc main_arg3) := (dats m 0 c).arrAt_in (2 : Fin 4) rfl _

theorem final_out (c : Dev nD) : finalA m c (3 : Fin 4) = total (accOf m) :=
  (dats m 0 c).arrAt_eq_of_after_last (3 : Fin 4) t0_0 (by decide +kernel) (total (accOf m)) fun j => rfl

/-- The windows stage the whole arguments. -/
theorem xstg_eq (c : Dev nD) : xstg m c = m ((c : Thread nD τ).loc main_arg0) := funext fun y =>
  congrArg (m ((c : Thread nD τ).loc main_arg0)) (funext fun a => Fin.ext (Pipeline.Window.rect_emb_val_of_index_zero win0_0 (0 : Fin 1) a rfl y))
theorem istg_eq (c : Dev nD) : istg m c = m ((c : Thread nD τ).loc main_arg2) := funext fun y =>
  congrArg (m ((c : Thread nD τ).loc main_arg2)) (funext fun a => Fin.ext (Pipeline.Window.rect_emb_val_of_index_zero win0_1 (0 : Fin 1) a rfl y))
theorem wstg_eq (c : Dev nD) : wstg m c = m ((c : Thread nD τ).loc main_arg3) := funext fun y =>
  congrArg (m ((c : Thread nD τ).loc main_arg3)) (funext fun a => Fin.ext (Pipeline.Window.rect_emb_val_of_index_zero win0_2 (0 : Fin 1) a rfl y))

/-- From any memory with zero counters every execution ends, every device's result at `total (accOf m)`, the arguments
    unchanged, the counters at zero. -/
theorem run_main : θ_run defs (onTc (τ := τ) (main (F := F))) ⟨m, fun _ => 0, ρ⟩ (fun r =>
    (∀ c : Dev nD, r.2.mem ((c : Thread nD τ).loc main_v1) = total (accOf m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨((h.1 c).1 (3 : Fin 4)).trans (final_out m c), ((h.1 c).1 (0 : Fin 4)).trans (final_x m c), (h.1 c).2,
    ((h.1 c).1 (1 : Fin 4)).trans (final_i m c), ((h.1 c).1 (2 : Fin 4)).trans (final_w m c)⟩, h.2⟩) (run_arrays m ρ)

end Cert.KernelIdealProof

end
-- ==== Proof.Value.Ring.lean ====
/-
What the ring leaves, over the reals: a chunk that has passed every device is the sum of the sixteen devices' chunks, so
`total` of the devices' contributions is their sum, element by element.
-/
module

public import proofs.«01_k».proof.Proof.KernelIdeal.Run
public import Idealize.ShloMosaic.Lib.Pointwise

@[expose] public section

noncomputable section

namespace Cert.Value

open Cert.KernelIdeal Cert.KernelIdeal.Gen Cert.KernelIdealProof
open Idealize.ShloMosaic

variable (acc : Dev nD → Full Ideal)

/-- Adding a received block of rows to the device's own, at one element. -/
theorem addC_apply (v w : Rows Ideal) (k : S64x1024.Idx) : (addC v w k : EReal) = v k + w k := by
  have hs : shapeCast S64x1024 (v : Vec Ideal S64x1024 .f32) shapeCasts_S64x1024_S64x1024 = v :=
    funext fun i => congrArg v (Shape.reshapeEquiv_self _ i)
  show (FloatOps.addf (F := Ideal) (shapeCast S64x1024 (v : Vec Ideal S64x1024 .f32) shapeCasts_S64x1024_S64x1024 k) (w k) : EReal) = _
  rw [hs]
  rfl

theorem prv_sh (j : Fin 16) (s : ℕ) : prv (sh j (s + 1)) = sh j s := by
  apply Fin.ext
  show ((j.val + (s + 1)) % 16 + 15) % 16 = (j.val + s) % 16
  omega

theorem ch_sh (j : Fin 16) (s : ℕ) (hs : s ≤ 15) : ch (sh j s) s = j := by
  apply Fin.ext
  have hj : j.val < 16 := j.isLt
  show ((j.val + s) % 16 + 32 - s) % 16 = j.val
  omega

/-- What the device `s` places after the chunk's first sends of chunk `j` is the sum over the devices the chunk has passed. -/
theorem sent_apply (j : Fin 16) (k : S64x1024.Idx) : ∀ s ≤ 15,
    (sent acc s (sh j s) k : EReal) = ∑ u ∈ Finset.range (s + 1), (acc (sh j u) ((chunkR j).emb k) : EReal)
  | 0, _ => by
    rw [Finset.sum_range_one]
    show (chunkOf (acc (sh j 0)) (ch (sh j 0) 0) k : EReal) = _
    rw [ch_sh j 0 (by omega)]
    rfl
  | s + 1, hs => by
    rw [Finset.sum_range_succ, ← sent_apply j k s (by omega)]
    refine Eq.trans ?_ (add_comm _ _)
    show (addC (chunkOf (acc (sh j (s + 1))) (ch (sh j (s + 1)) (s + 1))) (sent acc s (prv (sh j (s + 1)))) k : EReal) = _
    rw [addC_apply, ch_sh j (s + 1) hs, prv_sh]
    rfl

/-- Going once round the ring from `j` meets every device once. -/
theorem sum_round (j : Fin 16) (g : Dev nD → EReal) : ∑ u ∈ Finset.range 16, g (sh j u) = ∑ d : Dev nD, g d := by
  refine Finset.sum_bij (fun u _ => sh j u) (fun _ _ => Finset.mem_univ _) ?_ ?_ (fun _ _ => rfl)
  · intro u hu u' hu' h
    have h' : (j.val + u) % 16 = (j.val + u') % 16 := congrArg Fin.val h
    have := Finset.mem_range.mp hu
    have := Finset.mem_range.mp hu'
    omega
  · intro d _
    have hd : d.val < 16 := d.isLt
    have hj : j.val < 16 := j.isLt
    refine ⟨(d.val + 16 - j.val) % 16, Finset.mem_range.mpr (Nat.mod_lt _ (by decide)), Fin.ext ?_⟩
    show (j.val + (d.val + 16 - j.val) % 16) % 16 = d.val
    omega

/-- An index is the place it has in its chunk. -/
theorem emb_placeAt (i : S1024x1024.Idx) : (chunkR (chunkAt i)).emb (placeAt i) = i := by
  funext a
  apply Fin.ext
  match a with
  | ⟨0, _⟩ =>
    show 64 * ((i 0).val / 64) + 1 * ((i 0).val - 64 * ((i 0).val / 64)) = (i 0).val
    omega
  | ⟨1, _⟩ =>
    show 0 + 1 * ((i 1).val - 0) = (i 1).val
    omega

/-- Every element of the ring's result is the sum of the devices' contributions there. -/
theorem total_apply (i : S1024x1024.Idx) : (total acc i : EReal) = ∑ d : Dev nD, (acc d i : EReal) := by
  show (sent acc 15 (sh (chunkAt i) 15) (placeAt i) : EReal) = _
  rw [sent_apply acc _ _ 15 le_rfl, sum_round (chunkAt i) fun d => acc d ((chunkR (chunkAt i)).emb (placeAt i)), emb_placeAt]

end Cert.Value

end
-- ==== Proof.Value.Contribution.lean ====
/-
What one device contributes, over the reals: at token `i` and column `o` the sum, over its four experts, of the products of
the token's row — or of zeros, where the token is not that expert's — with the expert's column.
-/
module

public import proofs.«01_k».proof.Proof.KernelIdeal.Run
public import Idealize.ShloMosaic.Lib.Pointwise

@[expose] public section

noncomputable section

namespace Cert.Value

open Cert.KernelIdeal Cert.KernelIdeal.Gen Cert.KernelIdealProof
open Idealize.ShloMosaic

/-- The number a device's kernel computes for its expert `e`. -/
def expertWord (c : Dev nD) (e : BitVec 32) : BitVec 32 :=
  Scalar.addi (Scalar.muli (Scalar.remsi (Scalar.divsi (Dev.word c) 1#32) 16#32) 4#32) e

/-- One expert's product, for the tokens whose index word is `e`: other tokens' rows count as zero. -/
def share (x : Vec Ideal S1024x512 .f32) (ix : Vec Ideal S1024x1 .i32) (e : BitVec 32) (w : Vec Ideal S1x512x1024 .f32)
    (i o : Fin 1024) : EReal :=
  ∑ k : Fin 512, (Scalar.select (IntOp.cmpi .eq (ix (ix2 i 0)) e) (x (ix2 i k)) (0 : EReal) : EReal) * (w (ix3 0 k o) : EReal)

theorem contrib_apply (c : Dev nD) (x : Vec Ideal S1024x512 .f32) (ix : Vec Ideal S1024x1 .i32)
    (w : Fin 4 → Vec Ideal S1x512x1024 .f32) (i o : Fin 1024) :
    (contrib c x ix w (ix2 i o) : EReal)
      = share x ix (expertWord c 0#32) (w 0) i o + share x ix (expertWord c 1#32) (w 1) i o
        + share x ix (expertWord c 2#32) (w 2) i o + share x ix (expertWord c 3#32) (w 3) i o := by
  unfold share
  pointwise [contrib, k0_pay1, k0_pay2, k0_pay3, k0_pay4, expertWord]

end Cert.Value

end
-- ==== Proof.Value.Reference.lean ====
/-
What the reference computes, over the reals: token `i`'s row times the matrix of the expert that its index names.
-/
module

public import proofs.«01_k».proof.Proof.Gen.ReferenceIdeal.Run
public import Idealize.ShloMosaic.Lib.Pointwise

@[expose] public section

noncomputable section

namespace Cert.Value

open Cert.ReferenceIdeal Cert.ReferenceIdeal.Gen
open Idealize.ShloMosaic

/-- The words at which the reference reads its experts' matrices: the token's index (plus 64 where it is negative), 0, 0. -/
def places (ix : IVec S1024x1 32) : IVec S1024x3 32 :=
  concatenate S1024x3 1
    [⟨S1024x1, broadcastInDim S1024x1 ![0] bcast_S1024_S1024x1_0
        (select (cmpi .slt (shapeCast S1024 ix shapeCasts_S1024x1_S1024) (broadcastInDim S1024 ![] bcast_S_S1024 (constantI S_ 32 0#32)))
          (addi (shapeCast S1024 ix shapeCasts_S1024x1_S1024) (broadcastInDim S1024 ![] bcast_S_S1024 (constantI S_ 32 64#32)))
          (shapeCast S1024 ix shapeCasts_S1024x1_S1024))⟩,
     ⟨S1024x1, broadcastInDim S1024x1 ![] bcast_S_S1024x1
        (select (cmpi .slt (constantI S_ 32 0#32) (constantI S_ 32 0#32)) (addi (constantI S_ 32 0#32) (constantI S_ 32 512#32)) (constantI S_ 32 0#32))⟩,
     ⟨S1024x1, broadcastInDim S1024x1 ![] bcast_S_S1024x1
        (select (cmpi .slt (constantI S_ 32 0#32) (constantI S_ 32 0#32)) (addi (constantI S_ 32 0#32) (constantI S_ 32 1024#32)) (constantI S_ 32 0#32))⟩]
    concatenates_S1024x1_S1024x1_S1024x1_S1024x3_d1

/-- The reference's result. -/
def refOut (x : FVec Ideal S1024x512 .f32) (ix : IVec S1024x1 32) (W : FVec Ideal S64x512x1024 .f32) : FVec Ideal S1024x1024 .f32 :=
  Host.dotGeneral dot_S1024x512_S1024x512x1024_S1024x1024_1_1_n_2_0_0 none x
    (shapeCast S1024x512x1024
      (Host.gather gather_S64x512x1024_S1024x3_S1024x1x512x1024_123_n_n_n_012_1_15121024 W (places ix))
      shapeCasts_S1024x1x512x1024_S1024x512x1024)

/-- The words, at one token. -/
theorem places_apply (ix : IVec S1024x1 32) (i : Fin 1024) (e : Fin 64) (h : ix (ix2 i 0) = BitVec.ofNat 32 e.val) :
    places ix (ix2 i 0) = BitVec.ofNat 32 e.val ∧ places ix (ix2 i 1) = 0#32 ∧ places ix (ix2 i 2) = 0#32 := by
  refine ⟨?_, ?_, ?_⟩
  · pointwise [places]
    rw [h]
    exact (by decide : ∀ e : Fin 64, Scalar.select (IntOp.cmpi .slt (BitVec.ofNat 32 e.val) 0#32)
      (IntOp.addi (BitVec.ofNat 32 e.val) 64#32) (BitVec.ofNat 32 e.val) = BitVec.ofNat 32 e.val) e
  · pointwise [places]
    decide
  · pointwise [places]
    decide

/-- The gather's dimension numbers. -/
abbrev gd : GatherDims S64x512x1024 S1024x3 S1024x1x512x1024 := gather_S64x512x1024_S1024x3_S1024x1x512x1024_123_n_n_n_012_1_15121024

/-- Component `c` of the start index of a result's element is read in that element's row. -/
theorem gd_siIdx (i : Fin 1024) (z : Fin 1) (k : Fin 512) (o : Fin 1024) (c : Fin gd.startIndexMap.length) (c' : Fin 3)
    (hc : c.val = c'.val) : gd.siIdx (ix4 i z k o) c = ix2 i c' := by
  funext b
  apply Fin.ext
  have hk : ∀ X ∈ gd.batchDims, (ix4 i z k o X).val = i.val := fun X hX => by
    have hX' : X = 0 := (by decide : ∀ X : Fin 4, X ∈ gd.batchDims → X = 0) X hX
    subst hX'; rfl
  match b with
  | 0 =>
    unfold GatherDims.siIdx
    split
    · rename_i h; exact absurd h Nat.zero_ne_one
    · exact hk _ (List.getElem_mem _)
  | 1 =>
    unfold GatherDims.siIdx
    split
    · exact hc
    · rename_i h; exact absurd rfl h

/-- The slice for a result's element starts, on each axis, at that component, clamped. -/
theorem gd_start (p : IVec S1024x3 32) (i : Fin 1024) (z : Fin 1) (k : Fin 512) (o : Fin 1024) (a : Fin 3) :
    gd.start (ix4 i z k o) p a = min (p (ix2 i a)).toInt.toNat (S64x512x1024.size a - gd.sliceSizes a) := by
  have hm : a ∈ gd.startIndexMap := (by decide : ∀ a : Fin 3, a ∈ gd.startIndexMap) a
  have hi : gd.startIndexMap.idxOf a = a.val := (by decide : ∀ a : Fin 3, gd.startIndexMap.idxOf a = a.val) a
  unfold GatherDims.start
  rw [dif_pos hm, gd_siIdx i z k o ⟨gd.startIndexMap.idxOf a, List.idxOf_lt_length_iff.2 hm⟩ a hi]

/-- Within the slice the element has the result's last three coordinates. -/
theorem gd_offCoord (j : S1024x1x512x1024.Idx) (a : Fin 3) : gd.offCoord j a = (j a.succ).val := by
  have hm : a ∈ gd.sKept := (by decide : ∀ a : Fin 3, a ∈ gd.sKept) a
  unfold GatherDims.offCoord
  rw [dif_pos hm]
  have hi : ∀ X : Fin 4, X = a.succ → (j X).val = (j a.succ).val := fun X h => by rw [h]
  exact hi _ ((by decide : ∀ (a : Fin 3) (h : gd.sKept.idxOf a < gd.offsetDims.length), gd.offsetDims[gd.sKept.idxOf a]'h = a.succ) a _)

/-- The matrix that the gather reads for token `i` is the one its word names. -/
theorem gather_apply (W : FVec Ideal S64x512x1024 .f32) (p : IVec S1024x3 32) (i : Fin 1024) (e : Fin 64) (k : Fin 512)
    (o : Fin 1024) (h0 : p (ix2 i 0) = BitVec.ofNat 32 e.val) (h1 : p (ix2 i 1) = 0#32) (h2 : p (ix2 i 2) = 0#32) :
    Host.gather gd W p (ix4 i 0 k o) = W (ix3 e k o) := by
  unfold Host.gather
  refine congrArg W (funext fun a => Fin.ext ?_)
  show gd.start (ix4 i 0 k o) p a + gd.batchCoord (ix4 i 0 k o) a + gd.offCoord (ix4 i 0 k o) a = (ix3 e k o a).val
  rw [gd.batchCoord_eq_zero _ _ (List.not_mem_nil), gd_start, gd_offCoord]
  match a with
  | 0 =>
    rw [h0]
    exact (by decide : ∀ e : Fin 64, min (BitVec.ofNat 32 e.val).toInt.toNat (64 - 1) + 0 + 0 = e.val) e
  | 1 =>
    rw [h1]
    exact Nat.zero_add _
  | 2 =>
    rw [h2]
    exact Nat.zero_add _

/-- The reference's result at token `i` and column `o`. -/
theorem refOut_apply (x : FVec Ideal S1024x512 .f32) (ix : IVec S1024x1 32) (W : FVec Ideal S64x512x1024 .f32) (i o : Fin 1024)
    (e : Fin 64) (h : ix (ix2 i 0) = BitVec.ofNat 32 e.val) :
    (refOut x ix W (ix2 i o) : EReal) = ∑ k : Fin 512, (x (ix2 i k) : EReal) * (W (ix3 e k o) : EReal) := by
  obtain ⟨h0, h1, h2⟩ := places_apply ix i e h
  pointwise [refOut]
  exact Finset.sum_congr rfl fun k _ => by rw [gather_apply W (places ix) i e k o h0 h1 h2]

end Cert.Value

end
-- ==== Proof.Value.Equation.lean ====
/-
The equation: where every token's index names one of the sixty-four experts, the sum of the sixteen devices' contributions is
the reference's result. A token's expert is held by one device, as one of its four; every other expert adds a row of zeros
times its matrix, which is zero.
-/
module

public import proofs.«01_k».proof.Proof.Value.Ring
public import proofs.«01_k».proof.Proof.Value.Contribution
public import proofs.«01_k».proof.Proof.Value.Reference

@[expose] public section

noncomputable section

namespace Cert.Value

open Cert.KernelIdeal Cert.KernelIdeal.Gen Cert.KernelIdealProof
open Idealize.ShloMosaic

variable (x : FVec Ideal S1024x512 .f32) (ix : IVec S1024x1 32) (W : Cert.ReferenceIdeal.S64x512x1024.Idx → EReal)

/-- Token `i`'s row times column `o` of expert `e`'s matrix. -/
def prodAt (i o : Fin 1024) (e : Fin 64) : EReal := ∑ k : Fin 512, (x (ix2 i k) : EReal) * W (ix3 e k o)

/-- The experts that device `c` holds: four of the sixty-four. -/
def held (c : Fin 16) : S4x512x1024.Idx → EReal := Layout.block ⟨3, ![4, 512, 1024]⟩ ⟨3, ![64, 512, 1024]⟩ 0 16 c W

/-- The number of device `c`'s expert `q`. -/
theorem expertWord_eq (c : Fin 16) (q : Fin 4) : expertWord c (BitVec.ofNat 32 q.val) = BitVec.ofNat 32 (4 * c.val + q.val) := by
  revert c q; decide +kernel

/-- A token's word equals an expert's exactly where the numbers are equal. -/
theorem word_eq_iff (a b : ℕ) (ha : a < 64) (hb : b < 64) : BitVec.ofNat 32 a = BitVec.ofNat 32 b ↔ a = b := by
  refine ⟨fun h => ?_, fun h => by rw [h]⟩
  have h' := congrArg BitVec.toNat h
  simp only [BitVec.toNat_ofNat] at h'
  omega

set_option backward.proofsInPublic true in
/-- What the kernel loads as device `c`'s expert `q` is expert `4c + q`. -/
theorem wBlk_held (c : Fin 16) (q : Fin 4) (k : Fin 512) (o : Fin 1024) :
    (wBlk (F := Ideal) (held W c) q (ix3 0 k o) : EReal) = W (ix3 ⟨4 * c.val + q.val, by omega⟩ k o) := by
  show W _ = W _
  refine congrArg W (funext fun a => Fin.ext ?_)
  match a with
  | 0 =>
    show c.val * 4 + (q.val + 1 * 0) = 4 * c.val + q.val
    omega
  | 1 =>
    show 0 + 1 * k.val = k.val
    omega
  | 2 =>
    show 0 + 1 * o.val = o.val
    omega

/-- An expert's share of a token that is routed to it is the product; of any other token it is zero. -/
theorem share_eq (c : Fin 16) (q : Fin 4) (i o : Fin 1024) (e : Fin 64) (h : ix (ix2 i 0) = BitVec.ofNat 32 e.val) :
    share x ix (expertWord c (BitVec.ofNat 32 q.val)) (wBlk (F := Ideal) (held W c) q) i o
      = if e.val = 4 * c.val + q.val then prodAt x W i o e else 0 := by
  have hc : c.val < 16 := c.isLt
  unfold share
  rw [h, expertWord_eq]
  split
  · rename_i he
    refine Finset.sum_congr rfl fun k _ => ?_
    rw [wBlk_held, he]
    have hb : IntOp.cmpi .eq (BitVec.ofNat 32 (4 * c.val + q.val)) (BitVec.ofNat 32 (4 * c.val + q.val)) = 1#1 := by
      simp [IntOp.cmpi]
    rw [hb]
    have hE : (⟨4 * c.val + q.val, by omega⟩ : Fin 64) = e := Fin.ext he.symm
    rw [hE]
    rfl
  · rename_i he
    refine Finset.sum_eq_zero fun k _ => ?_
    have hb : IntOp.cmpi .eq (BitVec.ofNat 32 e.val) (BitVec.ofNat 32 (4 * c.val + q.val)) = 0#1 := by
      have hne : ¬ BitVec.ofNat 32 e.val = BitVec.ofNat 32 (4 * c.val + q.val) := fun h' =>
        he ((word_eq_iff _ _ e.isLt (by omega)).mp h')
      show BitVec.ofBool (BitVec.ofNat 32 e.val == BitVec.ofNat 32 (4 * c.val + q.val)) = 0#1
      rw [beq_eq_false_iff_ne.mpr hne]
      rfl
    rw [hb]
    exact zero_mul _

/-- A device's four shares together: the product where the token's expert is among the device's four, else zero. -/
theorem contrib_eq (c : Fin 16) (i o : Fin 1024) (e : Fin 64) (h : ix (ix2 i 0) = BitVec.ofNat 32 e.val) :
    (contrib (F := Ideal) c x ix (wBlk (F := Ideal) (held W c)) (ix2 i o) : EReal)
      = if c = ⟨e.val / 4, by omega⟩ then prodAt x W i o e else 0 := by
  rw [contrib_apply]
  have s0 := share_eq x ix W c 0 i o e h
  have s1 := share_eq x ix W c 1 i o e h
  have s2 := share_eq x ix W c 2 i o e h
  have s3 := share_eq x ix W c 3 i o e h
  refine (congrArg₂ (· + ·) (congrArg₂ (· + ·) (congrArg₂ (· + ·) s0 s1) s2) s3).trans ?_
  show (if e.val = 4 * c.val + 0 then prodAt x W i o e else 0) + (if e.val = 4 * c.val + 1 then prodAt x W i o e else 0)
    + (if e.val = 4 * c.val + 2 then prodAt x W i o e else 0) + (if e.val = 4 * c.val + 3 then prodAt x W i o e else 0) = _
  by_cases hc : c = ⟨e.val / 4, by omega⟩
  · have hv : c.val = e.val / 4 := congrArg Fin.val hc
    rw [if_pos hc]
    have hr : e.val % 4 = 0 ∨ e.val % 4 = 1 ∨ e.val % 4 = 2 ∨ e.val % 4 = 3 := by omega
    rcases hr with hr | hr | hr | hr
    · rw [if_pos (by omega), if_neg (by omega), if_neg (by omega), if_neg (by omega)]; simp only [add_zero, zero_add]
    · rw [if_neg (by omega), if_pos (by omega), if_neg (by omega), if_neg (by omega)]; simp only [add_zero, zero_add]
    · rw [if_neg (by omega), if_neg (by omega), if_pos (by omega), if_neg (by omega)]; simp only [add_zero, zero_add]
    · rw [if_neg (by omega), if_neg (by omega), if_neg (by omega), if_pos (by omega)]; simp only [add_zero, zero_add]
  · have hv : ¬ c.val = e.val / 4 := fun h' => hc (Fin.ext h')
    rw [if_neg hc, if_neg (by omega), if_neg (by omega), if_neg (by omega), if_neg (by omega)]
    simp only [add_zero]

/-- The sum of the devices' contributions is the reference's result. -/
theorem total_eq_refOut (hix : ∀ i : Fin 1024, ∃ e : Fin 64, ix (ix2 i 0) = BitVec.ofNat 32 e.val) :
    total (F := Ideal) (fun c => contrib (F := Ideal) c x ix (wBlk (F := Ideal) (held W c))) = refOut x ix W := by
  funext j
  obtain ⟨i, o, rfl⟩ : ∃ i o : Fin 1024, j = ix2 i o := ⟨j 0, j 1, eq_ix2 j⟩
  obtain ⟨e, he⟩ := hix i
  refine (total_apply _ _).trans ?_
  refine (Finset.sum_congr rfl fun c _ => contrib_eq x ix W c i o e he).trans ?_
  rw [Finset.sum_ite_eq' Finset.univ _ fun _ => prodAt x W i o e, if_pos (Finset.mem_univ _)]
  exact (refOut_apply x ix W i o e he).symm

end Cert.Value

end
-- ==== Proof.Value.Precondition.lean ====
/-
What the precondition says: every token's index is the word of a number below sixty-four.
-/
module

public import proofs.«01_k».proof.Defs
public import Idealize.ShloMosaic.Lib.Pointwise
public import Idealize.ShloMosaic.Lib.StableHlo.Predicate

@[expose] public section

noncomputable section

namespace Cert.Value

open Idealize.ShloMosaic

theorem preFacts : Cert.Pre_experts_exist_KernelIdeal.Facts := ⟨by decide⟩
theorem preFactsRef : Cert.Pre_experts_exist_ReferenceIdeal.Facts := ⟨by decide⟩

/-- A word that reads at least zero and less than sixty-four, as a signed number, is the word of such a number. -/
theorem word_of_bounds (w : BitVec 32) (h : IntOp.andi (IntOp.cmpi .sge w 0#32) (IntOp.cmpi .slt w 64#32) = 1#1) :
    ∃ e : Fin 64, w = BitVec.ofNat 32 e.val := by
  have h0 : BitVec.ofBool ((0#32).sle w) &&& BitVec.ofBool (w.slt 64#32) = 1#1 := h
  have hb : (0#32).sle w = true ∧ w.slt 64#32 = true := by
    revert h0
    generalize (0#32).sle w = a
    generalize w.slt 64#32 = b
    revert a b; decide
  have h1 : (0 : ℤ) ≤ w.toInt := by simpa [BitVec.sle] using hb.1
  have h2 : w.toInt < 64 := by simpa [BitVec.slt] using hb.2
  have hl := w.isLt
  rw [BitVec.toInt_eq_toNat_cond] at h1 h2
  have h3 : w.toNat < 64 := by split at h1 <;> split at h2 <;> omega
  exact ⟨⟨w.toNat, h3⟩, by simp⟩

/-- The predicate, read at one token. -/
theorem index_in_range [Cert.Pre_experts_exist_KernelIdeal.Facts] (x : FVec Ideal Cert.Pre_experts_exist_KernelIdeal.S1024x512 .f32)
    (r : FVec Ideal Cert.Pre_experts_exist_KernelIdeal.S512x64 .f32) (ix : IVec Cert.Pre_experts_exist_KernelIdeal.S1024x1 32)
    (W : FVec Ideal Cert.Pre_experts_exist_KernelIdeal.S4x512x1024 .f32)
    (h : Cert.Pre_experts_exist_KernelIdeal.fn (F := Ideal) x r ix W = fun _ => 1#1) (i : Fin 1024) :
    ∃ e : Fin 64, ix (ix2 i 0) = BitVec.ofNat 32 e.val := by
  have hi := congrFun h (ix2 i 0)
  pointwise [Cert.Pre_experts_exist_KernelIdeal.fn] at hi
  exact word_of_bounds _ hi

end Cert.Value

end
-- ==== Proof.lean ====
/-
The certificate of a mixture-of-experts layer on sixteen devices. Each device holds four experts, computes what they give the
tokens routed to them, and two rings of copies add the devices' results and hand the sum to all.

The five claims: the kernel, its reading over the reals, and the reference run, leave their arguments as they were and every
counter at zero; the reading over the reals rewrote nothing; and over the reals every device ends with the reference's result,
where every token's index names one of the sixty-four experts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equation
public import proofs.«01_k».proof.Proof.Value.Precondition
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m g _ =>
  (θ_run Cert.Kernel.defs _ _).mono (fun _ h => ⟨fun c => (h.1 c).2, h.2⟩) (Cert.KernelProof.run_main (F := Bits) m g)

/-- The frame of the kernel's reading over the reals; its version under the precondition is the same run. -/
theorem frame_ideal : Cert.quiescent_KernelIdeal := fun m g _ =>
  (θ_run Cert.KernelIdeal.defs _ _).mono (fun _ h => ⟨fun c => (h.1 c).2, h.2⟩) (Cert.KernelIdealProof.run_main (F := Ideal) m g)

/-- The reference's frame: it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Where every token's index names an expert, every device's result is the reference's. -/
theorem algebraic : Cert.algebraic_KernelIdeal_ReferenceIdeal_pre_experts_exist_KernelIdeal
    (hPre_experts_exist_KernelIdeal := Cert.Value.preFacts) := by
  intro m g m' g' hpre hargs
  have hix := @Cert.Value.index_in_range Cert.Value.preFacts _ _ _ _ (hpre (0 : Fin 16))
  rw [(hargs (0 : Fin 16)).2.2.1] at hix
  refine ⟨_, ?_, (θ_run Cert.ReferenceIdeal.defs _ _).mono (fun _ h => h 0) (Cert.ReferenceIdeal.Value.run (F := Ideal) m' g')⟩
  refine (θ_run Cert.KernelIdeal.defs _ _).mono (fun _ h c => ⟨(h.1 c).1.trans ?_, (h.1 c).2⟩)
    (Cert.KernelIdealProof.run_main (F := Ideal) m g)
  refine Eq.trans ?_ (Cert.Value.total_eq_refOut _ _ _ hix)
  refine congrArg (Cert.KernelIdealProof.total (F := Ideal)) (funext fun d => ?_)
  unfold Cert.KernelIdealProof.accOf
  rw [Cert.KernelIdealProof.xstg_eq, Cert.KernelIdealProof.istg_eq, Cert.KernelIdealProof.wstg_eq, (hargs d).1, (hargs d).2.2.1,
    (hargs d).2.2.2]
  rfl

/-- All the claims. -/
theorem claim : Cert.Claim :=
  ⟨Cert.Kernel.Gen.facts, Cert.KernelIdeal.Gen.facts, Cert.ReferenceIdeal.Gen.facts, Cert.Value.preFacts, Cert.Value.preFactsRef,
    frame_kernel, frame_ideal, fun m g _ => frame_ideal m g trivial, frame_reference, fun m g _ => frame_reference m g trivial,
    trivial, algebraic⟩

end Cert.Proof

end
